-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x16x64x64 : Shape := ⟨4, ![8, 16, 64, 64]⟩
abbrev S1024x1024 : Shape := ⟨2, ![1024, 1024]⟩
abbrev S_ : Shape := ⟨0, ![]⟩

class Facts : Prop where
  bcast_S_S8x16x64x64 : S_.BroadcastsInDim S8x16x64x64 (![] : Fin 0 → Fin S8x16x64x64.rank)
  reducesTo_S8x16x64x64_S_d0_1_2_3 : S8x16x64x64.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x16x64x64 .f32) (main_arg1 : FVec F S1024x1024 .f32) : IVec S_ 1 :=
  let main_v0 : FVec F S8x16x64x64 .f32 := Host.absf main_arg0
  let main_cst : FVec F S_ .f32 := constant S_ .f32 0x7F800000#32
  let main_v1 : FVec F S8x16x64x64 .f32 := broadcastInDim S8x16x64x64 ![] bcast_S_S8x16x64x64 main_cst
  let main_v2 : IVec S8x16x64x64 1 := cmpf .olt main_v0 main_v1
  let main_c : IVec S_ 1 := constantI S_ 1 1#1
  let main_v3 : IVec S_ 1 := (fun x v => Host.reduce IntOp.andi x v reducesTo_S8x16x64x64_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S8x16x64x64 : Shape := ⟨4, ![8, 16, 64, 64]⟩
abbrev S1024x1024 : Shape := ⟨2, ![1024, 1024]⟩
abbrev S_ : Shape := ⟨0, ![]⟩
abbrev S8x16x68x68 : Shape := ⟨4, ![8, 16, 68, 68]⟩
abbrev S16 : Shape := ⟨1, ![16]⟩
abbrev S16x1 : Shape := ⟨2, ![16, 1]⟩
abbrev S8 : Shape := ⟨1, ![8]⟩
abbrev S1x8 : Shape := ⟨2, ![1, 8]⟩
abbrev S16x8 : Shape := ⟨2, ![16, 8]⟩
abbrev S16x1x8x1 : Shape := ⟨4, ![16, 1, 8, 1]⟩
abbrev S1x16x1x8 : Shape := ⟨4, ![1, 16, 1, 8]⟩
abbrev S16x16x8x8 : Shape := ⟨4, ![16, 16, 8, 8]⟩
abbrev S16x16x8x8x1 : Shape := ⟨5, ![16, 16, 8, 8, 1]⟩
abbrev S16x16x8x8x2 : Shape := ⟨5, ![16, 16, 8, 8, 2]⟩
abbrev S8x16x16x16x8x8 : Shape := ⟨6, ![8, 16, 16, 16, 8, 8]⟩
abbrev S8x16x16x1024 : Shape := ⟨4, ![8, 16, 16, 1024]⟩
abbrev S2048x1024 : Shape := ⟨2, ![2048, 1024]⟩
abbrev S256x1024 : Shape := ⟨2, ![256, 1024]⟩
abbrev S8x128 : Shape := ⟨2, ![8, 128]⟩
abbrev S256 : Shape := ⟨1, ![256]⟩
abbrev S256x1 : Shape := ⟨2, ![256, 1]⟩
abbrev S8x16x16x16x4x4 : Shape := ⟨6, ![8, 16, 16, 16, 4, 4]⟩
abbrev S8x16x16x4x16x4 : Shape := ⟨6, ![8, 16, 16, 4, 16, 4]⟩

abbrev nBuf : Space → Nat
  | .hbm => 59
  | .vmem => 15
  | .smem => 0
  | _ => 0

abbrev bufTy : (tb : Table) → Fin (tcTables nBuf tb) → BufTy
  | .hbm, ⟨0, _⟩ => ⟨S8x16x64x64, .f32⟩
  | .hbm, ⟨1, _⟩ => ⟨S1024x1024, .f32⟩
  | .hbm, ⟨2, _⟩ => ⟨S_, .i32⟩
  | .hbm, ⟨3, _⟩ => ⟨S_, .f32⟩
  | .hbm, ⟨4, _⟩ => ⟨S8x16x68x68, .f32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16x1, .i32⟩
  | .hbm, ⟨10, _⟩ => ⟨S8, .i32⟩
  | .hbm, ⟨11, _⟩ => ⟨S1x8, .i32⟩
  | .hbm, ⟨12, _⟩ => ⟨S16x8, .i32⟩
  | .hbm, ⟨13, _⟩ => ⟨S16x8, .i32⟩
  | .hbm, ⟨14, _⟩ => ⟨S16x8, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16x1, .i32⟩
  | .hbm, ⟨20, _⟩ => ⟨S8, .i32⟩
  | .hbm, ⟨21, _⟩ => ⟨S1x8, .i32⟩
  | .hbm, ⟨22, _⟩ => ⟨S16x8, .i32⟩
  | .hbm, ⟨23, _⟩ => ⟨S16x8, .i32⟩
  | .hbm, ⟨24, _⟩ => ⟨S16x8, .i32⟩
  | .hbm, ⟨25, _⟩ => ⟨S16x1x8x1, .i32⟩
  | .hbm, ⟨26, _⟩ => ⟨S1x16x1x8, .i32⟩
  | .hbm, ⟨27, _⟩ => ⟨S_, .i32⟩
  | .hbm, ⟨28, _⟩ => ⟨S16x1x8x1, .i32⟩
  | .hbm, ⟨29, _⟩ => ⟨S16x1x8x1, .i1⟩
  | .hbm, ⟨30, _⟩ => ⟨S_, .i32⟩
  | .hbm, ⟨31, _⟩ => ⟨S16x1x8x1, .i32⟩
  | .hbm, ⟨32, _⟩ => ⟨S16x1x8x1, .i32⟩
  | .hbm, ⟨33, _⟩ => ⟨S16x1x8x1, .i32⟩
  | .hbm, ⟨34, _⟩ => ⟨S_, .i32⟩
  | .hbm, ⟨35, _⟩ => ⟨S1x16x1x8, .i32⟩
  | .hbm, ⟨36, _⟩ => ⟨S1x16x1x8, .i1⟩
  | .hbm, ⟨37, _⟩ => ⟨S_, .i32⟩
  | .hbm, ⟨38, _⟩ => ⟨S1x16x1x8, .i32⟩
  | .hbm, ⟨39, _⟩ => ⟨S1x16x1x8, .i32⟩
  | .hbm, ⟨40, _⟩ => ⟨S1x16x1x8, .i32⟩
  | .hbm, ⟨41, _⟩ => ⟨S16x16x8x8, .i32⟩
  | .hbm, ⟨42, _⟩ => ⟨S16x16x8x8, .i32⟩
  | .hbm, ⟨43, _⟩ => ⟨S16x16x8x8x1, .i32⟩
  | .hbm, ⟨44, _⟩ => ⟨S16x16x8x8x1, .i32⟩
  | .hbm, ⟨45, _⟩ => ⟨S16x16x8x8x2, .i32⟩
  | .hbm, ⟨46, _⟩ => ⟨S8x16x16x16x8x8, .f32⟩
  | .hbm, ⟨47, _⟩ => ⟨S8x16x16x16x8x8, .f32⟩
  | .hbm, ⟨48, _⟩ => ⟨S8x16x16x1024, .f32⟩
  | .hbm, ⟨49, _⟩ => ⟨S2048x1024, .f32⟩
  | .hbm, ⟨50, _⟩ => ⟨S1024x1024, .f32⟩
  | .hbm, ⟨51, _⟩ => ⟨S1024x1024, .bf16⟩
  | .hbm, ⟨52, _⟩ => ⟨S1024x1024, .bf16⟩
  | .hbm, ⟨53, _⟩ => ⟨S1024x1024, .bf16⟩
  | .hbm, ⟨54, _⟩ => ⟨S2048x1024, .f32⟩
  | .hbm, ⟨55, _⟩ => ⟨S8x16x16x16x8x8, .f32⟩
  | .hbm, ⟨56, _⟩ => ⟨S8x16x16x16x4x4, .f32⟩
  | .hbm, ⟨57, _⟩ => ⟨S8x16x16x4x16x4, .f32⟩
  | .hbm, ⟨58, _⟩ => ⟨S8x16x64x64, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S8x128, .f32⟩
  | _, _ => ⟨S8x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_2 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40_0 : Ref sig .tc := ⟨.hbm, 50, rfl⟩
abbrev main_v40_1 : Ref sig .tc := ⟨.hbm, 51, rfl⟩
abbrev main_v40_2 : Ref sig .tc := ⟨.hbm, 52, rfl⟩
abbrev main_v40_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S8x16x64x64 : Shape := ⟨4, ![8, 16, 64, 64]⟩
abbrev S1024x1024 : Shape := ⟨2, ![1024, 1024]⟩
abbrev S_ : Shape := ⟨0, ![]⟩
abbrev S8x16x68x68 : Shape := ⟨4, ![8, 16, 68, 68]⟩
abbrev S16 : Shape := ⟨1, ![16]⟩
abbrev S16x1 : Shape := ⟨2, ![16, 1]⟩
abbrev S8 : Shape := ⟨1, ![8]⟩
abbrev S1x8 : Shape := ⟨2, ![1, 8]⟩
abbrev S16x8 : Shape := ⟨2, ![16, 8]⟩
abbrev S16x1x8x1 : Shape := ⟨4, ![16, 1, 8, 1]⟩
abbrev S1x16x1x8 : Shape := ⟨4, ![1, 16, 1, 8]⟩
abbrev S16x16x8x8 : Shape := ⟨4, ![16, 16, 8, 8]⟩
abbrev S16x16x8x8x1 : Shape := ⟨5, ![16, 16, 8, 8, 1]⟩
abbrev S16x16x8x8x2 : Shape := ⟨5, ![16, 16, 8, 8, 2]⟩
abbrev S8x16x16x16x8x8 : Shape := ⟨6, ![8, 16, 16, 16, 8, 8]⟩
abbrev S8x16x16x1024 : Shape := ⟨4, ![8, 16, 16, 1024]⟩
abbrev S2048x1024 : Shape := ⟨2, ![2048, 1024]⟩
abbrev S2048x8 : Shape := ⟨2, ![2048, 8]⟩
abbrev S2048x1 : Shape := ⟨2, ![2048, 1]⟩
abbrev S2048 : Shape := ⟨1, ![2048]⟩
abbrev S1024 : Shape := ⟨1, ![1024]⟩
abbrev S1x1024 : Shape := ⟨2, ![1, 1024]⟩
abbrev S2048x8x1 : Shape := ⟨3, ![2048, 8, 1]⟩
abbrev S2048x1x8 : Shape := ⟨3, ![2048, 1, 8]⟩
abbrev S2048x8x8 : Shape := ⟨3, ![2048, 8, 8]⟩
abbrev S2048x8x8x1 : Shape := ⟨4, ![2048, 8, 8, 1]⟩
abbrev S2048x8x8x2 : Shape := ⟨4, ![2048, 8, 8, 2]⟩
abbrev S1 : Shape := ⟨1, ![1]⟩
abbrev S1x1x1 : Shape := ⟨3, ![1, 1, 1]⟩
abbrev S8x8 : Shape := ⟨2, ![8, 8]⟩
abbrev S8x1 : Shape := ⟨2, ![8, 1]⟩
abbrev S1x8x8 : Shape := ⟨3, ![1, 8, 8]⟩
abbrev S2048x8x9 : Shape := ⟨3, ![2048, 8, 9]⟩
abbrev S1x8x1 : Shape := ⟨3, ![1, 8, 1]⟩
abbrev S2048x1x9 : Shape := ⟨3, ![2048, 1, 9]⟩
abbrev S2048x1x1 : Shape := ⟨3, ![2048, 1, 1]⟩
abbrev S2048x8x1024 : Shape := ⟨3, ![2048, 8, 1024]⟩
abbrev S8x16x16x16x4x4 : Shape := ⟨6, ![8, 16, 16, 16, 4, 4]⟩
abbrev S8x16x16x4x16x4 : Shape := ⟨6, ![8, 16, 16, 4, 16, 4]⟩

abbrev nBuf : Space → Nat
  | .hbm => 341
  | .vmem => 0
  | .smem => 0
  | _ => 0

abbrev hbmTy0_0 (i : Nat) : BufTy := match i % 128 with
  | 0 => ⟨S8x16x64x64, .f32⟩
  | 1 => ⟨S1024x1024, .f32⟩
  | 2 => ⟨S_, .i32⟩
  | 3 => ⟨S_, .f32⟩
  | 4 => ⟨S8x16x68x68, .f32⟩
  | 5 => ⟨S16, .i32⟩
  | 6 => ⟨S_, .i32⟩
  | 7 => ⟨S16, .i32⟩
  | 8 => ⟨S16, .i32⟩
  | 9 => ⟨S16x1, .i32⟩
  | 10 => ⟨S8, .i32⟩
  | 11 => ⟨S1x8, .i32⟩
  | 12 => ⟨S16x8, .i32⟩
  | 13 => ⟨S16x8, .i32⟩
  | 14 => ⟨S16x8, .i32⟩
  | 15 => ⟨S16, .i32⟩
  | 16 => ⟨S_, .i32⟩
  | 17 => ⟨S16, .i32⟩
  | 18 => ⟨S16, .i32⟩
  | 19 => ⟨S16x1, .i32⟩
  | 20 => ⟨S8, .i32⟩
  | 21 => ⟨S1x8, .i32⟩
  | 22 => ⟨S16x8, .i32⟩
  | 23 => ⟨S16x8, .i32⟩
  | 24 => ⟨S16x8, .i32⟩
  | 25 => ⟨S16x1x8x1, .i32⟩
  | 26 => ⟨S1x16x1x8, .i32⟩
  | 27 => ⟨S_, .i32⟩
  | 28 => ⟨S16x1x8x1, .i32⟩
  | 29 => ⟨S16x1x8x1, .i1⟩
  | 30 => ⟨S_, .i32⟩
  | 31 => ⟨S16x1x8x1, .i32⟩
  | 32 => ⟨S16x1x8x1, .i32⟩
  | 33 => ⟨S16x1x8x1, .i32⟩
  | 34 => ⟨S_, .i32⟩
  | 35 => ⟨S1x16x1x8, .i32⟩
  | 36 => ⟨S1x16x1x8, .i1⟩
  | 37 => ⟨S_, .i32⟩
  | 38 => ⟨S1x16x1x8, .i32⟩
  | 39 => ⟨S1x16x1x8, .i32⟩
  | 40 => ⟨S1x16x1x8, .i32⟩
  | 41 => ⟨S16x16x8x8, .i32⟩
  | 42 => ⟨S16x16x8x8, .i32⟩
  | 43 => ⟨S16x16x8x8x1, .i32⟩
  | 44 => ⟨S16x16x8x8x1, .i32⟩
  | 45 => ⟨S16x16x8x8x2, .i32⟩
  | 46 => ⟨S8x16x16x16x8x8, .f32⟩
  | 47 => ⟨S8x16x16x16x8x8, .f32⟩
  | 48 => ⟨S8x16x16x1024, .f32⟩
  | 49 => ⟨S2048x1024, .f32⟩
  | 50 => ⟨S1024x1024, .f32⟩
  | 51 => ⟨S1024x1024, .f32⟩
  | 52 => ⟨S1024x1024, .i32⟩
  | 53 => ⟨S1024x1024, .i32⟩
  | 54 => ⟨S_, .i32⟩
  | 55 => ⟨S1024x1024, .i32⟩
  | 56 => ⟨S1024x1024, .i32⟩
  | 57 => ⟨S1024x1024, .i1⟩
  | 58 => ⟨S1024x1024, .f32⟩
  | 59 => ⟨S_, .f32⟩
  | 60 => ⟨S1024x1024, .f32⟩
  | 61 => ⟨S1024x1024, .f32⟩
  | 62 => ⟨S1024x1024, .f32⟩
  | 63 => ⟨S2048x1024, .f32⟩
  | 64 => ⟨S8, .i32⟩
  | 65 => ⟨S_, .i1⟩
  | 66 => ⟨S2048x1024, .i1⟩
  | 67 => ⟨S_, .i32⟩
  | 68 => ⟨S2048x8, .i32⟩
  | 69 => ⟨S_, .f32⟩
  | 70 => ⟨S2048x8, .f32⟩
  | 71 => ⟨S_, .i32⟩
  | 72 => ⟨S_, .i32⟩
  | 73 => ⟨S8, .i32⟩
  | 74 => ⟨S1024x1024, .f32⟩
  | 75 => ⟨S2048x1024, .f32⟩
  | 76 => ⟨S_, .i32⟩
  | 77 => ⟨S_, .i32⟩
  | 78 => ⟨S2048x1024, .i1⟩
  | 79 => ⟨S2048x1024, .f32⟩
  | 80 => ⟨S2048x8, .i32⟩
  | 81 => ⟨S2048x8, .f32⟩
  | 82 => ⟨S_, .i32⟩
  | 83 => ⟨S_, .i1⟩
  | 84 => ⟨S_, .i32⟩
  | 85 => ⟨S_, .i32⟩
  | 86 => ⟨S2048x1024, .f32⟩
  | 87 => ⟨S_, .f32⟩
  | 88 => ⟨S2048x1024, .f32⟩
  | 89 => ⟨S2048x1024, .f32⟩
  | 90 => ⟨S2048x1, .f32⟩
  | 91 => ⟨S2048x1, .i32⟩
  | 92 => ⟨S2048, .i32⟩
  | 93 => ⟨S1024, .i32⟩
  | 94 => ⟨S1x1024, .i32⟩
  | 95 => ⟨S2048x1, .i32⟩
  | 96 => ⟨S2048x1024, .i32⟩
  | 97 => ⟨S2048x1024, .i32⟩
  | 98 => ⟨S2048x1024, .i1⟩
  | 99 => ⟨S2048x1024, .i1⟩
  | 100 => ⟨S1x8, .i32⟩
  | 101 => ⟨S_, .i32⟩
  | 102 => ⟨S1x8, .i32⟩
  | 103 => ⟨S1x8, .i1⟩
  | 104 => ⟨S2048x1, .i32⟩
  | 105 => ⟨S2048x8, .i1⟩
  | 106 => ⟨S2048x8, .i32⟩
  | 107 => ⟨S2048x8, .i32⟩
  | 108 => ⟨S_, .i32⟩
  | 109 => ⟨S8, .i32⟩
  | 110 => ⟨S8, .i1⟩
  | 111 => ⟨S2048x8x1, .i32⟩
  | 112 => ⟨S2048x1x8, .i32⟩
  | 113 => ⟨S_, .i32⟩
  | 114 => ⟨S2048x8x1, .i32⟩
  | 115 => ⟨S2048x8x1, .i1⟩
  | 116 => ⟨S_, .i32⟩
  | 117 => ⟨S2048x8x1, .i32⟩
  | 118 => ⟨S2048x8x1, .i32⟩
  | 119 => ⟨S2048x8x1, .i32⟩
  | 120 => ⟨S_, .i32⟩
  | 121 => ⟨S2048x1x8, .i32⟩
  | 122 => ⟨S2048x1x8, .i1⟩
  | 123 => ⟨S_, .i32⟩
  | 124 => ⟨S2048x1x8, .i32⟩
  | 125 => ⟨S2048x1x8, .i32⟩
  | 126 => ⟨S2048x1x8, .i32⟩
  | 127 => ⟨S2048x8x8, .i32⟩
  | _ => ⟨S8x16x64x64, .f32⟩

abbrev hbmTy0_1 (i : Nat) : BufTy := match i % 128 with
  | 0 => ⟨S2048x8x8, .i32⟩
  | 1 => ⟨S2048x8x8x1, .i32⟩
  | 2 => ⟨S2048x8x8x1, .i32⟩
  | 3 => ⟨S2048x8x8x2, .i32⟩
  | 4 => ⟨S2048x8x8, .f32⟩
  | 5 => ⟨S_, .i32⟩
  | 6 => ⟨S2048x8, .i32⟩
  | 7 => ⟨S2048x8, .i1⟩
  | 8 => ⟨S_, .i32⟩
  | 9 => ⟨S2048x8, .i32⟩
  | 10 => ⟨S2048x8, .i32⟩
  | 11 => ⟨S2048x8, .i32⟩
  | 12 => ⟨S2048x8x1, .i32⟩
  | 13 => ⟨S1, .i32⟩
  | 14 => ⟨S_, .i32⟩
  | 15 => ⟨S2048x8x1, .i32⟩
  | 16 => ⟨S2048x8x1, .i1⟩
  | 17 => ⟨S1x1x1, .i32⟩
  | 18 => ⟨S2048x8x1, .i32⟩
  | 19 => ⟨S2048x8x1, .i1⟩
  | 20 => ⟨S2048x8x1, .i1⟩
  | 21 => ⟨S_, .i1⟩
  | 22 => ⟨S2048x8, .i1⟩
  | 23 => ⟨S2048x8, .f32⟩
  | 24 => ⟨S_, .f32⟩
  | 25 => ⟨S2048x8, .f32⟩
  | 26 => ⟨S2048x8, .f32⟩
  | 27 => ⟨S8x8, .i32⟩
  | 28 => ⟨S8x8, .i32⟩
  | 29 => ⟨S_, .i32⟩
  | 30 => ⟨S8x8, .i32⟩
  | 31 => ⟨S8x8, .i32⟩
  | 32 => ⟨S8x8, .i1⟩
  | 33 => ⟨S8x8, .f32⟩
  | 34 => ⟨S_, .f32⟩
  | 35 => ⟨S8x8, .f32⟩
  | 36 => ⟨S8x8, .f32⟩
  | 37 => ⟨S8x1, .i1⟩
  | 38 => ⟨S1x8, .i1⟩
  | 39 => ⟨S8x8, .i1⟩
  | 40 => ⟨S8x8, .i1⟩
  | 41 => ⟨S8x8, .i1⟩
  | 42 => ⟨S1x8x8, .f32⟩
  | 43 => ⟨S2048x8x8, .f32⟩
  | 44 => ⟨S2048x8x8, .f32⟩
  | 45 => ⟨S8x8, .i32⟩
  | 46 => ⟨S8x8, .i32⟩
  | 47 => ⟨S_, .i32⟩
  | 48 => ⟨S8x8, .i32⟩
  | 49 => ⟨S8x8, .i32⟩
  | 50 => ⟨S8x8, .i1⟩
  | 51 => ⟨S8x8, .f32⟩
  | 52 => ⟨S2048x8x8, .i1⟩
  | 53 => ⟨S2048x8x8, .f32⟩
  | 54 => ⟨S2048x8x8, .f32⟩
  | 55 => ⟨S_, .f32⟩
  | 56 => ⟨S2048x8, .i1⟩
  | 57 => ⟨S2048x8, .f32⟩
  | 58 => ⟨S2048x8, .f32⟩
  | 59 => ⟨S2048x8x1, .f32⟩
  | 60 => ⟨S2048x8x9, .f32⟩
  | 61 => ⟨S8, .i32⟩
  | 62 => ⟨S1x8x1, .i32⟩
  | 63 => ⟨S2048x1x9, .f32⟩
  | 64 => ⟨S2048x1x1, .f32⟩
  | 65 => ⟨S2048x1x9, .f32⟩
  | 66 => ⟨S2048x1x9, .f32⟩
  | 67 => ⟨S_, .i32⟩
  | 68 => ⟨S1x8x1, .i32⟩
  | 69 => ⟨S1x8x1, .i1⟩
  | 70 => ⟨S2048x8x1, .f32⟩
  | 71 => ⟨S2048x8x9, .f32⟩
  | 72 => ⟨S2048x8x9, .f32⟩
  | 73 => ⟨S2048x8x9, .f32⟩
  | 74 => ⟨S2048x8x9, .f32⟩
  | 75 => ⟨S2048x8x9, .i1⟩
  | 76 => ⟨S2048x8x9, .f32⟩
  | 77 => ⟨S2048x8x9, .f32⟩
  | 78 => ⟨S2048x1x9, .f32⟩
  | 79 => ⟨S2048x1x1, .f32⟩
  | 80 => ⟨S2048x1x9, .f32⟩
  | 81 => ⟨S2048x1x9, .f32⟩
  | 82 => ⟨S_, .i32⟩
  | 83 => ⟨S1x8x1, .i32⟩
  | 84 => ⟨S1x8x1, .i1⟩
  | 85 => ⟨S2048x8x1, .f32⟩
  | 86 => ⟨S2048x8x9, .f32⟩
  | 87 => ⟨S2048x8x9, .f32⟩
  | 88 => ⟨S2048x8x9, .f32⟩
  | 89 => ⟨S2048x8x9, .f32⟩
  | 90 => ⟨S2048x8x9, .i1⟩
  | 91 => ⟨S2048x8x9, .f32⟩
  | 92 => ⟨S2048x8x9, .f32⟩
  | 93 => ⟨S2048x1x9, .f32⟩
  | 94 => ⟨S2048x1x1, .f32⟩
  | 95 => ⟨S2048x1x9, .f32⟩
  | 96 => ⟨S2048x1x9, .f32⟩
  | 97 => ⟨S_, .i32⟩
  | 98 => ⟨S1x8x1, .i32⟩
  | 99 => ⟨S1x8x1, .i1⟩
  | 100 => ⟨S2048x8x1, .f32⟩
  | 101 => ⟨S2048x8x9, .f32⟩
  | 102 => ⟨S2048x8x9, .f32⟩
  | 103 => ⟨S2048x8x9, .f32⟩
  | 104 => ⟨S2048x8x9, .f32⟩
  | 105 => ⟨S2048x8x9, .i1⟩
  | 106 => ⟨S2048x8x9, .f32⟩
  | 107 => ⟨S2048x8x9, .f32⟩
  | 108 => ⟨S2048x1x9, .f32⟩
  | 109 => ⟨S2048x1x1, .f32⟩
  | 110 => ⟨S2048x1x9, .f32⟩
  | 111 => ⟨S2048x1x9, .f32⟩
  | 112 => ⟨S_, .i32⟩
  | 113 => ⟨S1x8x1, .i32⟩
  | 114 => ⟨S1x8x1, .i1⟩
  | 115 => ⟨S2048x8x1, .f32⟩
  | 116 => ⟨S2048x8x9, .f32⟩
  | 117 => ⟨S2048x8x9, .f32⟩
  | 118 => ⟨S2048x8x9, .f32⟩
  | 119 => ⟨S2048x8x9, .f32⟩
  | 120 => ⟨S2048x8x9, .i1⟩
  | 121 => ⟨S2048x8x9, .f32⟩
  | 122 => ⟨S2048x8x9, .f32⟩
  | 123 => ⟨S2048x1x9, .f32⟩
  | 124 => ⟨S2048x1x1, .f32⟩
  | 125 => ⟨S2048x1x9, .f32⟩
  | 126 => ⟨S2048x1x9, .f32⟩
  | 127 => ⟨S_, .i32⟩
  | _ => ⟨S8x16x64x64, .f32⟩

abbrev hbmTy0_2 (i : Nat) : BufTy := match i % 128 with
  | 0 => ⟨S1x8x1, .i32⟩
  | 1 => ⟨S1x8x1, .i1⟩
  | 2 => ⟨S2048x8x1, .f32⟩
  | 3 => ⟨S2048x8x9, .f32⟩
  | 4 => ⟨S2048x8x9, .f32⟩
  | 5 => ⟨S2048x8x9, .f32⟩
  | 6 => ⟨S2048x8x9, .f32⟩
  | 7 => ⟨S2048x8x9, .i1⟩
  | 8 => ⟨S2048x8x9, .f32⟩
  | 9 => ⟨S2048x8x9, .f32⟩
  | 10 => ⟨S2048x1x9, .f32⟩
  | 11 => ⟨S2048x1x1, .f32⟩
  | 12 => ⟨S2048x1x9, .f32⟩
  | 13 => ⟨S2048x1x9, .f32⟩
  | 14 => ⟨S_, .i32⟩
  | 15 => ⟨S1x8x1, .i32⟩
  | 16 => ⟨S1x8x1, .i1⟩
  | 17 => ⟨S2048x8x1, .f32⟩
  | 18 => ⟨S2048x8x9, .f32⟩
  | 19 => ⟨S2048x8x9, .f32⟩
  | 20 => ⟨S2048x8x9, .f32⟩
  | 21 => ⟨S2048x8x9, .f32⟩
  | 22 => ⟨S2048x8x9, .i1⟩
  | 23 => ⟨S2048x8x9, .f32⟩
  | 24 => ⟨S2048x8x9, .f32⟩
  | 25 => ⟨S2048x1x9, .f32⟩
  | 26 => ⟨S2048x1x1, .f32⟩
  | 27 => ⟨S2048x1x9, .f32⟩
  | 28 => ⟨S2048x1x9, .f32⟩
  | 29 => ⟨S_, .i32⟩
  | 30 => ⟨S1x8x1, .i32⟩
  | 31 => ⟨S1x8x1, .i1⟩
  | 32 => ⟨S2048x8x1, .f32⟩
  | 33 => ⟨S2048x8x9, .f32⟩
  | 34 => ⟨S2048x8x9, .f32⟩
  | 35 => ⟨S2048x8x9, .f32⟩
  | 36 => ⟨S2048x8x9, .f32⟩
  | 37 => ⟨S2048x8x9, .i1⟩
  | 38 => ⟨S2048x8x9, .f32⟩
  | 39 => ⟨S2048x8x9, .f32⟩
  | 40 => ⟨S2048x1x9, .f32⟩
  | 41 => ⟨S2048x1x1, .f32⟩
  | 42 => ⟨S2048x1x9, .f32⟩
  | 43 => ⟨S2048x1x9, .f32⟩
  | 44 => ⟨S_, .i32⟩
  | 45 => ⟨S1x8x1, .i32⟩
  | 46 => ⟨S1x8x1, .i1⟩
  | 47 => ⟨S2048x8x1, .f32⟩
  | 48 => ⟨S2048x8x9, .f32⟩
  | 49 => ⟨S2048x8x9, .f32⟩
  | 50 => ⟨S2048x8x9, .f32⟩
  | 51 => ⟨S2048x8x9, .f32⟩
  | 52 => ⟨S2048x8x9, .i1⟩
  | 53 => ⟨S2048x8x9, .f32⟩
  | 54 => ⟨S2048x8x9, .f32⟩
  | 55 => ⟨S2048x8x1, .f32⟩
  | 56 => ⟨S2048x8, .f32⟩
  | 57 => ⟨S_, .i32⟩
  | 58 => ⟨S2048x8, .i32⟩
  | 59 => ⟨S2048x8, .i1⟩
  | 60 => ⟨S_, .i32⟩
  | 61 => ⟨S2048x8, .i32⟩
  | 62 => ⟨S2048x8, .i32⟩
  | 63 => ⟨S2048x8, .i32⟩
  | 64 => ⟨S2048x8x1, .i32⟩
  | 65 => ⟨S2048x8x1024, .f32⟩
  | 66 => ⟨S2048x1024, .f32⟩
  | 67 => ⟨S2048x1024, .f32⟩
  | 68 => ⟨S_, .i32⟩
  | 69 => ⟨S_, .i32⟩
  | 70 => ⟨S1024x1024, .f32⟩
  | 71 => ⟨S_, .i32⟩
  | 72 => ⟨S2048x8, .i32⟩
  | 73 => ⟨S2048x8, .i1⟩
  | 74 => ⟨S_, .i32⟩
  | 75 => ⟨S2048x8, .i32⟩
  | 76 => ⟨S2048x8, .i32⟩
  | 77 => ⟨S2048x8, .i32⟩
  | 78 => ⟨S2048x8x1, .i32⟩
  | 79 => ⟨S2048x8x1024, .f32⟩
  | 80 => ⟨S2048x1024, .f32⟩
  | 81 => ⟨S8x16x16x16x8x8, .f32⟩
  | 82 => ⟨S8x16x16x16x4x4, .f32⟩
  | 83 => ⟨S8x16x16x4x16x4, .f32⟩
  | 84 => ⟨S8x16x64x64, .f32⟩
  | _ => ⟨S8x16x64x64, .f32⟩

abbrev hbmTy (i : Nat) : BufTy := match i / 128 with
  | 0 => hbmTy0_0 i
  | 1 => hbmTy0_1 i
  | 2 => hbmTy0_2 i
  | _ => ⟨S8x16x64x64, .f32⟩

abbrev bufTy : (tb : Table) → Fin (tcTables nBuf tb) → BufTy
  | .hbm, ⟨i, _⟩ => hbmTy i
  | _, _ => ⟨S8x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_2 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_c_7 : Ref sig .tc := ⟨.hbm, 65, rfl⟩
abbrev main_v53 : Ref sig .tc := ⟨.hbm, 66, rfl⟩
abbrev main_c_8 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_c_10 : Ref sig .tc := ⟨.hbm, 71, rfl⟩
abbrev main_c_11 : Ref sig .tc := ⟨.hbm, 72, rfl⟩
abbrev main_v56_0 : Ref sig .tc := ⟨.hbm, 73, rfl⟩
abbrev main_v56_1 : Ref sig .tc := ⟨.hbm, 74, rfl⟩
abbrev main_v56_2 : Ref sig .tc := ⟨.hbm, 75, rfl⟩
abbrev main_v56_3 : Ref sig .tc := ⟨.hbm, 76, rfl⟩
abbrev main_v56_4 : Ref sig .tc := ⟨.hbm, 77, rfl⟩
abbrev main_v56_5 : Ref sig .tc := ⟨.hbm, 78, rfl⟩
abbrev main_v56_6 : Ref sig .tc := ⟨.hbm, 79, rfl⟩
abbrev main_v56_7 : Ref sig .tc := ⟨.hbm, 80, rfl⟩
abbrev main_v56_8 : Ref sig .tc := ⟨.hbm, 81, rfl⟩
abbrev main_while0c_c_22 : Ref sig .tc := ⟨.hbm, 82, rfl⟩
abbrev main_while0c_v70 : Ref sig .tc := ⟨.hbm, 83, rfl⟩
abbrev main_while0b_c_22 : Ref sig .tc := ⟨.hbm, 84, rfl⟩
abbrev main_while0b_v70 : Ref sig .tc := ⟨.hbm, 85, rfl⟩
abbrev main_while0b_v71 : Ref sig .tc := ⟨.hbm, 86, rfl⟩
abbrev main_while0b_cst_23 : Ref sig .tc := ⟨.hbm, 87, rfl⟩
abbrev main_while0b_call1_v0 : Ref sig .tc := ⟨.hbm, 88, rfl⟩
abbrev main_while0b_v72 : Ref sig .tc := ⟨.hbm, 89, rfl⟩
abbrev main_while0b_values : Ref sig .tc := ⟨.hbm, 90, rfl⟩
abbrev main_while0b_indices : Ref sig .tc := ⟨.hbm, 91, rfl⟩
abbrev main_while0b_v73 : Ref sig .tc := ⟨.hbm, 92, rfl⟩
abbrev main_while0b_v74 : Ref sig .tc := ⟨.hbm, 93, rfl⟩
abbrev main_while0b_v75 : Ref sig .tc := ⟨.hbm, 94, rfl⟩
abbrev main_while0b_v76 : Ref sig .tc := ⟨.hbm, 95, rfl⟩
abbrev main_while0b_v77 : Ref sig .tc := ⟨.hbm, 96, rfl⟩
abbrev main_while0b_v78 : Ref sig .tc := ⟨.hbm, 97, rfl⟩
abbrev main_while0b_v79 : Ref sig .tc := ⟨.hbm, 98, rfl⟩
abbrev main_while0b_v80 : Ref sig .tc := ⟨.hbm, 99, rfl⟩
abbrev main_while0b_v81 : Ref sig .tc := ⟨.hbm, 100, rfl⟩
abbrev main_while0b_v82 : Ref sig .tc := ⟨.hbm, 101, rfl⟩
abbrev main_while0b_v83 : Ref sig .tc := ⟨.hbm, 102, rfl⟩
abbrev main_while0b_v84 : Ref sig .tc := ⟨.hbm, 103, rfl⟩
abbrev main_while0b_v85 : Ref sig .tc := ⟨.hbm, 104, rfl⟩
abbrev main_while0b_call2_v0 : Ref sig .tc := ⟨.hbm, 105, rfl⟩
abbrev main_while0b_call2_v1 : Ref sig .tc := ⟨.hbm, 106, rfl⟩
abbrev main_while0b_v86 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_v91 : Ref sig .tc := ⟨.hbm, 112, rfl⟩
abbrev main_while0b_c_24 : Ref sig .tc := ⟨.hbm, 113, rfl⟩
abbrev main_while0b_v92 : Ref sig .tc := ⟨.hbm, 114, rfl⟩
abbrev main_while0b_v93 : Ref sig .tc := ⟨.hbm, 115, rfl⟩
abbrev main_while0b_c_25 : Ref sig .tc := ⟨.hbm, 116, rfl⟩
abbrev main_while0b_v94 : Ref sig .tc := ⟨.hbm, 117, rfl⟩
abbrev main_while0b_v95 : Ref sig .tc := ⟨.hbm, 118, rfl⟩
abbrev main_while0b_v96 : Ref sig .tc := ⟨.hbm, 119, rfl⟩
abbrev main_while0b_c_26 : Ref sig .tc := ⟨.hbm, 120, rfl⟩
abbrev main_while0b_v97 : Ref sig .tc := ⟨.hbm, 121, rfl⟩
abbrev main_while0b_v98 : Ref sig .tc := ⟨.hbm, 122, rfl⟩
abbrev main_while0b_c_27 : Ref sig .tc := ⟨.hbm, 123, rfl⟩
abbrev main_while0b_v99 : Ref sig .tc := ⟨.hbm, 124, rfl⟩
abbrev main_while0b_v100 : Ref sig .tc := ⟨.hbm, 125, rfl⟩
abbrev main_while0b_v101 : Ref sig .tc := ⟨.hbm, 126, rfl⟩
abbrev main_while0b_v102 : Ref sig .tc := ⟨.hbm, 127, rfl⟩
abbrev main_while0b_v103 : Ref sig .tc := ⟨.hbm, 128, rfl⟩
abbrev main_while0b_v104 : Ref sig .tc := ⟨.hbm, 129, rfl⟩
abbrev main_while0b_v105 : Ref sig .tc := ⟨.hbm, 130, rfl⟩
abbrev main_while0b_v106 : Ref sig .tc := ⟨.hbm, 131, rfl⟩
abbrev main_while0b_v107 : Ref sig .tc := ⟨.hbm, 132, rfl⟩
abbrev main_while0b_call3_c : Ref sig .tc := ⟨.hbm, 133, rfl⟩
abbrev main_while0b_call3_v0 : Ref sig .tc := ⟨.hbm, 134, rfl⟩
abbrev main_while0b_call3_v1 : Ref sig .tc := ⟨.hbm, 135, rfl⟩
abbrev main_while0b_call3_c_0 : Ref sig .tc := ⟨.hbm, 136, rfl⟩
abbrev main_while0b_call3_v2 : Ref sig .tc := ⟨.hbm, 137, rfl⟩
abbrev main_while0b_call3_v3 : Ref sig .tc := ⟨.hbm, 138, rfl⟩
abbrev main_while0b_call3_v4 : Ref sig .tc := ⟨.hbm, 139, rfl⟩
abbrev main_while0b_call3_v5 : Ref sig .tc := ⟨.hbm, 140, rfl⟩
abbrev main_while0b_call3_c_1 : Ref sig .tc := ⟨.hbm, 141, rfl⟩
abbrev main_while0b_call3_c_2 : Ref sig .tc := ⟨.hbm, 142, rfl⟩
abbrev main_while0b_call3_v6 : Ref sig .tc := ⟨.hbm, 143, rfl⟩
abbrev main_while0b_call3_v7 : Ref sig .tc := ⟨.hbm, 144, rfl⟩
abbrev main_while0b_call3_v8 : Ref sig .tc := ⟨.hbm, 145, rfl⟩
abbrev main_while0b_call3_v9 : Ref sig .tc := ⟨.hbm, 146, rfl⟩
abbrev main_while0b_call3_v10 : Ref sig .tc := ⟨.hbm, 147, rfl⟩
abbrev main_while0b_call3_v11 : Ref sig .tc := ⟨.hbm, 148, rfl⟩
abbrev main_while0b_call3_c_3 : Ref sig .tc := ⟨.hbm, 149, rfl⟩
abbrev main_while0b_call3_v12 : Ref sig .tc := ⟨.hbm, 150, rfl⟩
abbrev main_while0b_call3_v13 : Ref sig .tc := ⟨.hbm, 151, rfl⟩
abbrev main_while0b_call3_cst : Ref sig .tc := ⟨.hbm, 152, rfl⟩
abbrev main_while0b_call3_v14 : Ref sig .tc := ⟨.hbm, 153, rfl⟩
abbrev main_while0b_v108 : Ref sig .tc := ⟨.hbm, 154, rfl⟩
abbrev main_while0b_v109 : Ref sig .tc := ⟨.hbm, 155, rfl⟩
abbrev main_while0b_v110 : Ref sig .tc := ⟨.hbm, 156, rfl⟩
abbrev main_while0b_c_28 : Ref sig .tc := ⟨.hbm, 157, rfl⟩
abbrev main_while0b_v111 : Ref sig .tc := ⟨.hbm, 158, rfl⟩
abbrev main_while0b_v112 : Ref sig .tc := ⟨.hbm, 159, rfl⟩
abbrev main_while0b_v113 : Ref sig .tc := ⟨.hbm, 160, rfl⟩
abbrev main_while0b_v114 : Ref sig .tc := ⟨.hbm, 161, rfl⟩
abbrev main_while0b_cst_29 : Ref sig .tc := ⟨.hbm, 162, rfl⟩
abbrev main_while0b_v115 : Ref sig .tc := ⟨.hbm, 163, rfl⟩
abbrev main_while0b_v116 : Ref sig .tc := ⟨.hbm, 164, rfl⟩
abbrev main_while0b_v117 : Ref sig .tc := ⟨.hbm, 165, rfl⟩
abbrev main_while0b_v118 : Ref sig .tc := ⟨.hbm, 166, rfl⟩
abbrev main_while0b_v119 : Ref sig .tc := ⟨.hbm, 167, rfl⟩
abbrev main_while0b_v120 : Ref sig .tc := ⟨.hbm, 168, rfl⟩
abbrev main_while0b_v121 : Ref sig .tc := ⟨.hbm, 169, rfl⟩
abbrev main_while0b_v122 : Ref sig .tc := ⟨.hbm, 170, rfl⟩
abbrev main_while0b_v123 : Ref sig .tc := ⟨.hbm, 171, rfl⟩
abbrev main_while0b_v124 : Ref sig .tc := ⟨.hbm, 172, rfl⟩
abbrev main_while0b_v125 : Ref sig .tc := ⟨.hbm, 173, rfl⟩
abbrev main_while0b_v126 : Ref sig .tc := ⟨.hbm, 174, rfl⟩
abbrev main_while0b_c_30 : Ref sig .tc := ⟨.hbm, 175, rfl⟩
abbrev main_while0b_v127 : Ref sig .tc := ⟨.hbm, 176, rfl⟩
abbrev main_while0b_v128 : Ref sig .tc := ⟨.hbm, 177, rfl⟩
abbrev main_while0b_v129 : Ref sig .tc := ⟨.hbm, 178, rfl⟩
abbrev main_while0b_v130 : Ref sig .tc := ⟨.hbm, 179, rfl⟩
abbrev main_while0b_call4_v0 : Ref sig .tc := ⟨.hbm, 180, rfl⟩
abbrev main_while0b_call4_v1 : Ref sig .tc := ⟨.hbm, 181, rfl⟩
abbrev main_while0b_v131 : Ref sig .tc := ⟨.hbm, 182, rfl⟩
abbrev main_while0b_cst_31 : Ref sig .tc := ⟨.hbm, 183, rfl⟩
abbrev main_while0b_call5_v0 : Ref sig .tc := ⟨.hbm, 184, rfl⟩
abbrev main_while0b_call5_v1 : Ref sig .tc := ⟨.hbm, 185, rfl⟩
abbrev main_while0b_v132 : Ref sig .tc := ⟨.hbm, 186, rfl⟩
abbrev main_while0b_v133 : Ref sig .tc := ⟨.hbm, 187, rfl⟩
abbrev main_while0b_v134 : Ref sig .tc := ⟨.hbm, 188, rfl⟩
abbrev main_while0b_v135 : Ref sig .tc := ⟨.hbm, 189, rfl⟩
abbrev main_while0b_v136 : Ref sig .tc := ⟨.hbm, 190, rfl⟩
abbrev main_while0b_v137 : Ref sig .tc := ⟨.hbm, 191, rfl⟩
abbrev main_while0b_v138 : Ref sig .tc := ⟨.hbm, 192, rfl⟩
abbrev main_while0b_v139 : Ref sig .tc := ⟨.hbm, 193, rfl⟩
abbrev main_while0b_v140 : Ref sig .tc := ⟨.hbm, 194, rfl⟩
abbrev main_while0b_c_32 : Ref sig .tc := ⟨.hbm, 195, rfl⟩
abbrev main_while0b_v141 : Ref sig .tc := ⟨.hbm, 196, rfl⟩
abbrev main_while0b_v142 : Ref sig .tc := ⟨.hbm, 197, rfl⟩
abbrev main_while0b_v143 : Ref sig .tc := ⟨.hbm, 198, rfl⟩
abbrev main_while0b_v144 : Ref sig .tc := ⟨.hbm, 199, rfl⟩
abbrev main_while0b_v145 : Ref sig .tc := ⟨.hbm, 200, rfl⟩
abbrev main_while0b_v146 : Ref sig .tc := ⟨.hbm, 201, rfl⟩
abbrev main_while0b_v147 : Ref sig .tc := ⟨.hbm, 202, rfl⟩
abbrev main_while0b_call6_v0 : Ref sig .tc := ⟨.hbm, 203, rfl⟩
abbrev main_while0b_call6_v1 : Ref sig .tc := ⟨.hbm, 204, rfl⟩
abbrev main_while0b_v148 : Ref sig .tc := ⟨.hbm, 205, rfl⟩
abbrev main_while0b_v149 : Ref sig .tc := ⟨.hbm, 206, rfl⟩
abbrev main_while0b_v150 : Ref sig .tc := ⟨.hbm, 207, rfl⟩
abbrev main_while0b_v151 : Ref sig .tc := ⟨.hbm, 208, rfl⟩
abbrev main_while0b_v152 : Ref sig .tc := ⟨.hbm, 209, rfl⟩
abbrev main_while0b_c_33 : Ref sig .tc := ⟨.hbm, 210, rfl⟩
abbrev main_while0b_v153 : Ref sig .tc := ⟨.hbm, 211, rfl⟩
abbrev main_while0b_v154 : Ref sig .tc := ⟨.hbm, 212, rfl⟩
abbrev main_while0b_v155 : Ref sig .tc := ⟨.hbm, 213, rfl⟩
abbrev main_while0b_v156 : Ref sig .tc := ⟨.hbm, 214, rfl⟩
abbrev main_while0b_v157 : Ref sig .tc := ⟨.hbm, 215, rfl⟩
abbrev main_while0b_v158 : Ref sig .tc := ⟨.hbm, 216, rfl⟩
abbrev main_while0b_v159 : Ref sig .tc := ⟨.hbm, 217, rfl⟩
abbrev main_while0b_call7_v0 : Ref sig .tc := ⟨.hbm, 218, rfl⟩
abbrev main_while0b_call7_v1 : Ref sig .tc := ⟨.hbm, 219, rfl⟩
abbrev main_while0b_v160 : Ref sig .tc := ⟨.hbm, 220, rfl⟩
abbrev main_while0b_v161 : Ref sig .tc := ⟨.hbm, 221, rfl⟩
abbrev main_while0b_v162 : Ref sig .tc := ⟨.hbm, 222, rfl⟩
abbrev main_while0b_v163 : Ref sig .tc := ⟨.hbm, 223, rfl⟩
abbrev main_while0b_v164 : Ref sig .tc := ⟨.hbm, 224, rfl⟩
abbrev main_while0b_c_34 : Ref sig .tc := ⟨.hbm, 225, rfl⟩
abbrev main_while0b_v165 : Ref sig .tc := ⟨.hbm, 226, rfl⟩
abbrev main_while0b_v166 : Ref sig .tc := ⟨.hbm, 227, rfl⟩
abbrev main_while0b_v167 : Ref sig .tc := ⟨.hbm, 228, rfl⟩
abbrev main_while0b_v168 : Ref sig .tc := ⟨.hbm, 229, rfl⟩
abbrev main_while0b_v169 : Ref sig .tc := ⟨.hbm, 230, rfl⟩
abbrev main_while0b_v170 : Ref sig .tc := ⟨.hbm, 231, rfl⟩
abbrev main_while0b_v171 : Ref sig .tc := ⟨.hbm, 232, rfl⟩
abbrev main_while0b_call8_v0 : Ref sig .tc := ⟨.hbm, 233, rfl⟩
abbrev main_while0b_call8_v1 : Ref sig .tc := ⟨.hbm, 234, rfl⟩
abbrev main_while0b_v172 : Ref sig .tc := ⟨.hbm, 235, rfl⟩
abbrev main_while0b_v173 : Ref sig .tc := ⟨.hbm, 236, rfl⟩
abbrev main_while0b_v174 : Ref sig .tc := ⟨.hbm, 237, rfl⟩
abbrev main_while0b_v175 : Ref sig .tc := ⟨.hbm, 238, rfl⟩
abbrev main_while0b_v176 : Ref sig .tc := ⟨.hbm, 239, rfl⟩
abbrev main_while0b_c_35 : Ref sig .tc := ⟨.hbm, 240, rfl⟩
abbrev main_while0b_v177 : Ref sig .tc := ⟨.hbm, 241, rfl⟩
abbrev main_while0b_v178 : Ref sig .tc := ⟨.hbm, 242, rfl⟩
abbrev main_while0b_v179 : Ref sig .tc := ⟨.hbm, 243, rfl⟩
abbrev main_while0b_v180 : Ref sig .tc := ⟨.hbm, 244, rfl⟩
abbrev main_while0b_v181 : Ref sig .tc := ⟨.hbm, 245, rfl⟩
abbrev main_while0b_v182 : Ref sig .tc := ⟨.hbm, 246, rfl⟩
abbrev main_while0b_v183 : Ref sig .tc := ⟨.hbm, 247, rfl⟩
abbrev main_while0b_call9_v0 : Ref sig .tc := ⟨.hbm, 248, rfl⟩
abbrev main_while0b_call9_v1 : Ref sig .tc := ⟨.hbm, 249, rfl⟩
abbrev main_while0b_v184 : Ref sig .tc := ⟨.hbm, 250, rfl⟩
abbrev main_while0b_v185 : Ref sig .tc := ⟨.hbm, 251, rfl⟩
abbrev main_while0b_v186 : Ref sig .tc := ⟨.hbm, 252, rfl⟩
abbrev main_while0b_v187 : Ref sig .tc := ⟨.hbm, 253, rfl⟩
abbrev main_while0b_v188 : Ref sig .tc := ⟨.hbm, 254, rfl⟩
abbrev main_while0b_c_36 : Ref sig .tc := ⟨.hbm, 255, rfl⟩
abbrev main_while0b_v189 : Ref sig .tc := ⟨.hbm, 256, rfl⟩
abbrev main_while0b_v190 : Ref sig .tc := ⟨.hbm, 257, rfl⟩
abbrev main_while0b_v191 : Ref sig .tc := ⟨.hbm, 258, rfl⟩
abbrev main_while0b_v192 : Ref sig .tc := ⟨.hbm, 259, rfl⟩
abbrev main_while0b_v193 : Ref sig .tc := ⟨.hbm, 260, rfl⟩
abbrev main_while0b_v194 : Ref sig .tc := ⟨.hbm, 261, rfl⟩
abbrev main_while0b_v195 : Ref sig .tc := ⟨.hbm, 262, rfl⟩
abbrev main_while0b_call10_v0 : Ref sig .tc := ⟨.hbm, 263, rfl⟩
abbrev main_while0b_call10_v1 : Ref sig .tc := ⟨.hbm, 264, rfl⟩
abbrev main_while0b_v196 : Ref sig .tc := ⟨.hbm, 265, rfl⟩
abbrev main_while0b_v197 : Ref sig .tc := ⟨.hbm, 266, rfl⟩
abbrev main_while0b_v198 : Ref sig .tc := ⟨.hbm, 267, rfl⟩
abbrev main_while0b_v199 : Ref sig .tc := ⟨.hbm, 268, rfl⟩
abbrev main_while0b_v200 : Ref sig .tc := ⟨.hbm, 269, rfl⟩
abbrev main_while0b_c_37 : Ref sig .tc := ⟨.hbm, 270, rfl⟩
abbrev main_while0b_v201 : Ref sig .tc := ⟨.hbm, 271, rfl⟩
abbrev main_while0b_v202 : Ref sig .tc := ⟨.hbm, 272, rfl⟩
abbrev main_while0b_v203 : Ref sig .tc := ⟨.hbm, 273, rfl⟩
abbrev main_while0b_v204 : Ref sig .tc := ⟨.hbm, 274, rfl⟩
abbrev main_while0b_v205 : Ref sig .tc := ⟨.hbm, 275, rfl⟩
abbrev main_while0b_v206 : Ref sig .tc := ⟨.hbm, 276, rfl⟩
abbrev main_while0b_v207 : Ref sig .tc := ⟨.hbm, 277, rfl⟩
abbrev main_while0b_call11_v0 : Ref sig .tc := ⟨.hbm, 278, rfl⟩
abbrev main_while0b_call11_v1 : Ref sig .tc := ⟨.hbm, 279, rfl⟩
abbrev main_while0b_v208 : Ref sig .tc := ⟨.hbm, 280, rfl⟩
abbrev main_while0b_v209 : Ref sig .tc := ⟨.hbm, 281, rfl⟩
abbrev main_while0b_v210 : Ref sig .tc := ⟨.hbm, 282, rfl⟩
abbrev main_while0b_v211 : Ref sig .tc := ⟨.hbm, 283, rfl⟩
abbrev main_while0b_v212 : Ref sig .tc := ⟨.hbm, 284, rfl⟩
abbrev main_while0b_c_38 : Ref sig .tc := ⟨.hbm, 285, rfl⟩
abbrev main_while0b_v213 : Ref sig .tc := ⟨.hbm, 286, rfl⟩
abbrev main_while0b_v214 : Ref sig .tc := ⟨.hbm, 287, rfl⟩
abbrev main_while0b_v215 : Ref sig .tc := ⟨.hbm, 288, rfl⟩
abbrev main_while0b_v216 : Ref sig .tc := ⟨.hbm, 289, rfl⟩
abbrev main_while0b_v217 : Ref sig .tc := ⟨.hbm, 290, rfl⟩
abbrev main_while0b_v218 : Ref sig .tc := ⟨.hbm, 291, rfl⟩
abbrev main_while0b_v219 : Ref sig .tc := ⟨.hbm, 292, rfl⟩
abbrev main_while0b_call12_v0 : Ref sig .tc := ⟨.hbm, 293, rfl⟩
abbrev main_while0b_call12_v1 : Ref sig .tc := ⟨.hbm, 294, rfl⟩
abbrev main_while0b_v220 : Ref sig .tc := ⟨.hbm, 295, rfl⟩
abbrev main_while0b_v221 : Ref sig .tc := ⟨.hbm, 296, rfl⟩
abbrev main_while0b_v222 : Ref sig .tc := ⟨.hbm, 297, rfl⟩
abbrev main_while0b_v223 : Ref sig .tc := ⟨.hbm, 298, rfl⟩
abbrev main_while0b_v224 : Ref sig .tc := ⟨.hbm, 299, rfl⟩
abbrev main_while0b_c_39 : Ref sig .tc := ⟨.hbm, 300, rfl⟩
abbrev main_while0b_v225 : Ref sig .tc := ⟨.hbm, 301, rfl⟩
abbrev main_while0b_v226 : Ref sig .tc := ⟨.hbm, 302, rfl⟩
abbrev main_while0b_v227 : Ref sig .tc := ⟨.hbm, 303, rfl⟩
abbrev main_while0b_v228 : Ref sig .tc := ⟨.hbm, 304, rfl⟩
abbrev main_while0b_v229 : Ref sig .tc := ⟨.hbm, 305, rfl⟩
abbrev main_while0b_v230 : Ref sig .tc := ⟨.hbm, 306, rfl⟩
abbrev main_while0b_v231 : Ref sig .tc := ⟨.hbm, 307, rfl⟩
abbrev main_while0b_call13_v0 : Ref sig .tc := ⟨.hbm, 308, rfl⟩
abbrev main_while0b_call13_v1 : Ref sig .tc := ⟨.hbm, 309, rfl⟩
abbrev main_while0b_v232 : Ref sig .tc := ⟨.hbm, 310, rfl⟩
abbrev main_while0b_v233 : Ref sig .tc := ⟨.hbm, 311, rfl⟩
abbrev main_while0b_v234 : Ref sig .tc := ⟨.hbm, 312, rfl⟩
abbrev main_while0b_c_40 : Ref sig .tc := ⟨.hbm, 313, rfl⟩
abbrev main_while0b_v235 : Ref sig .tc := ⟨.hbm, 314, rfl⟩
abbrev main_while0b_v236 : Ref sig .tc := ⟨.hbm, 315, rfl⟩
abbrev main_while0b_c_41 : Ref sig .tc := ⟨.hbm, 316, rfl⟩
abbrev main_while0b_v237 : Ref sig .tc := ⟨.hbm, 317, rfl⟩
abbrev main_while0b_v238 : Ref sig .tc := ⟨.hbm, 318, rfl⟩
abbrev main_while0b_v239 : Ref sig .tc := ⟨.hbm, 319, rfl⟩
abbrev main_while0b_v240 : Ref sig .tc := ⟨.hbm, 320, rfl⟩
abbrev main_while0b_v241 : Ref sig .tc := ⟨.hbm, 321, rfl⟩
abbrev main_while0b_v242 : Ref sig .tc := ⟨.hbm, 322, rfl⟩
abbrev main_while0b_v243 : Ref sig .tc := ⟨.hbm, 323, rfl⟩
abbrev main_while0b_c_42 : Ref sig .tc := ⟨.hbm, 324, rfl⟩
abbrev main_while0b_v244 : Ref sig .tc := ⟨.hbm, 325, rfl⟩
abbrev main_v57 : Ref sig .tc := ⟨.hbm, 326, rfl⟩
abbrev main_c_12 : Ref sig .tc := ⟨.hbm, 327, rfl⟩
abbrev main_v58 : Ref sig .tc := ⟨.hbm, 328, rfl⟩
abbrev main_v59 : Ref sig .tc := ⟨.hbm, 329, rfl⟩
abbrev main_c_13 : Ref sig .tc := ⟨.hbm, 330, rfl⟩
abbrev main_v60 : Ref sig .tc := ⟨.hbm, 331, rfl⟩
abbrev main_v61 : Ref sig .tc := ⟨.hbm, 332, rfl⟩
abbrev main_v62 : Ref sig .tc := ⟨.hbm, 333, rfl⟩
abbrev main_v63 : Ref sig .tc := ⟨.hbm, 334, rfl⟩
abbrev main_v64 : Ref sig .tc := ⟨.hbm, 335, rfl⟩
abbrev main_v65 : Ref sig .tc := ⟨.hbm, 336, rfl⟩
abbrev main_v66 : Ref sig .tc := ⟨.hbm, 337, rfl⟩
abbrev main_v67 : Ref sig .tc := ⟨.hbm, 338, rfl⟩
abbrev main_v68 : Ref sig .tc := ⟨.hbm, 339, rfl⟩
abbrev main_v69 : Ref sig .tc := ⟨.hbm, 340, rfl⟩

abbrev nD : Nat := 1
abbrev τ : Topo := Topo.v7x

variable {F : FTy → Type} [FloatOps F]

abbrev main_while0_count : Scf.Loop 32 := ⟨0#32, 8#32, 1#32⟩
-- ==== Proof.KernelRun.lean ====
/- The kernel's whole run on the TensorCores, with what the result array holds at the end named: the last of the
   boundary contents that the frame certificate folds from the launch memory. -/
module

public import proofs.«01_k».proof.Proof.Gen.KernelIdeal.Frame

@[expose] public section

set_option maxRecDepth 16384

noncomputable section

namespace Cert.Omp.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution terminates with the result array at the last boundary's contents, the two arguments as
    launched and every counter at zero: the launch is the frame certificate's, read at one buffer more. -/
theorem run_result : θ_run defs (onTc (τ := τ) (main (F := F))) ⟨m, fun _ => 0, ρ⟩ (fun r => (∀ c : Dev nD,
      r.2.mem ((c.tc : Thread nD τ).loc main_v45) = W6 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v45 (by decide)),
       (h c _ (mem_uc main_arg0 (by decide))).trans (W6_main_arg0 m ρ c),
       (h c _ (mem_uc main_arg1 (by decide))).trans (W6_main_arg1 m ρ c)⟩), funext fun g => hz g (.inr (no_unscoped g.2))⟩)

end Cert.Omp.KernelRun
-- ==== Proof.KernelHost.lean ====
/- The host's part of the kernel's program: the patches laid out as rows are the array that the reference lays out, and
   the result is the tail of the reconstructed rows. -/
module

public import proofs.«01_k».proof.Proof.Gen.KernelIdeal.Frame
public import proofs.«01_k».proof.Proof.Gen.ReferenceIdeal.Step
public import Idealize.ShloMosaic.Lib.StableHlo.RunRead

@[expose] public section

set_option maxRecDepth 16384

noncomputable section

namespace Cert.Omp.KernelHost

open Idealize.ShloMosaic Idealize.ShloMosaic.TcCoe Idealize.SL Idealize.SL.Sem Cert.KernelIdeal Cert.KernelIdeal.Gen

variable {F : FTy → Type} [FloatOps F]
variable (m : (ℓ : Loc nD τ sig) → Buf (Elt F) ℓ) (ρ : Dev nD → PrngReg)

/-- From the rows of the reconstruction to the result: the middle of each patch, put back in the image. -/
def tail (y : FVec F S2048x1024 .f32) : FVec F S8x16x64x64 .f32 :=
  shapeCast S8x16x64x64 (transpose S8x16x16x4x16x4 [0, 3, 1, 4, 2, 5]
    (extractStridedSlice S8x16x16x16x4x4 ![0, 0, 0, 0, 2, 2]
      (shapeCast S8x16x16x16x8x8 y shapeCasts_S2048x1024_S8x16x16x16x8x8)
      slices_S8x16x16x16x8x8_S8x16x16x16x4x4_0_0_0_0_2_2)
    transposes_S8x16x16x16x4x4_S8x16x16x4x16x4_0_3_1_4_2_5) shapeCasts_S8x16x16x4x16x4_S8x16x64x64

theorem result_tail (c : Dev nD) :
    W6 m ρ c (Proc.devRef .tc main_v45) = tail (W5 m ρ c (Proc.devRef .tc main_v41)) := by
  show StableHlo.after hostOps2 (W5 m ρ c) (Proc.devRef .tc main_v45) = _
  unfold hostOps2
  after_reads_simp
  rfl

theorem padded (c : Dev nD) : W2 m ρ c (Proc.devRef .tc main_v0)
    = Cert.ReferenceIdeal.Step.A_main_v0 (m ((c : Thread nD τ).loc main_arg0)) (m ((c : Thread nD τ).loc main_arg1)) := by
  show StableHlo.after hostOps0_1 (StableHlo.after hostOps0 (W0 m ρ c)) (Proc.devRef .tc main_v0) = _
  unfold hostOps0_1 hostOps0
  after_reads_simp
  rfl

/-- The rows of patches from the padded image and the two halves of the table of places. -/
def layout (z : FVec F S8x16x68x68 .f32) (a b : IVec S16x16x8x8x1 32) : FVec F S2048x1024 .f32 :=
  shapeCast S2048x1024 (shapeCast S8x16x16x1024 (transpose S8x16x16x16x8x8 [0, 2, 3, 1, 4, 5]
    (Host.gather gather_S8x16x68x68_S16x16x8x8x2_S8x16x16x16x8x8_01_23_n_n_23_4_81611 z
      (concatenate S16x16x8x8x2 4 [⟨S16x16x8x8x1, a⟩, ⟨S16x16x8x8x1, b⟩]
        concatenates_S16x16x8x8x1_S16x16x8x8x1_S16x16x8x8x2_d4))
    transposes_S8x16x16x16x8x8_S8x16x16x16x8x8_0_2_3_1_4_5) shapeCasts_S8x16x16x16x8x8_S8x16x16x1024)
    shapeCasts_S8x16x16x1024_S2048x1024

theorem layout_ref (z : FVec F S8x16x64x64 .f32) (d : FVec F S1024x1024 .f32) :
    layout (Cert.ReferenceIdeal.Step.A_main_v0 z d) (Cert.ReferenceIdeal.Step.K_main_v33 (F := F))
      (Cert.ReferenceIdeal.Step.K_main_v34 (F := F)) = Cert.ReferenceIdeal.Step.A_main_v39 z d := rfl

theorem rows (c : Dev nD) : W3 m ρ c (Proc.devRef .tc main_v39)
    = Cert.ReferenceIdeal.Step.A_main_v39 (m ((c : Thread nD τ).loc main_arg0)) (m ((c : Thread nD τ).loc main_arg1)) := by
  show StableHlo.after hostOps0_2 (W2 m ρ c) (Proc.devRef .tc main_v39) = _
  have h := padded m ρ c
  generalize W2 m ρ c = w at h ⊢
  unfold hostOps0_2
  after_reads_simp
  rw [← layout_ref]
  refine Eq.trans (b := layout _ _ _) rfl ?_
  refine congr (congrArg₂ layout h ?_) ?_
  · after_reads_simp
    simp only [Cert.ReferenceIdeal.Step.K_main_v33, Cert.ReferenceIdeal.Step.K_main_v31, Cert.ReferenceIdeal.Step.K_main_v25]
    rfl
  · after_reads_simp
    simp only [Cert.ReferenceIdeal.Step.K_main_v34, Cert.ReferenceIdeal.Step.K_main_v32, Cert.ReferenceIdeal.Step.K_main_v30]
    rfl

end Cert.Omp.KernelHost
-- ==== Proof.Blocks.lean ====
/- What the two launches leave in their arrays: the first computes its four outputs at one point, from the whole
   dictionary; the second's eight points write eight bands of 256 rows, each from the same band of the patches and the
   whole of the other arrays. -/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.Omp.Blocks

open Idealize.ShloMosaic Idealize.ShloMosaic.TcCoe Idealize.SL Idealize.SL.Sem Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

theorem in0 (c : Dev nD) (t : Fin cfg0.N) : (iblk0 V c 0 t : Vec F S1024x1024 .f32) = V c main_arg1 := by
  have h : (fun a => win0_0.index t a * main_arg1.ty.shape.size a) = fun _ => 0 :=
    funext fun a => by rw [fin_N0 t]; fin_cases a <;> decide
  exact Memref.read_access_unit_zero (Elt F) main_arg1 h (fun a => by rw [congrFun h a]; simp) (V c main_arg1)

theorem in1_1 (c : Dev nD) (t : Fin cfg1.N) : (iblk1 V c 1 t : Vec F S1024x1024 .f32) = V c main_arg1 := by
  have h : (fun a => win1_1.index t a * main_arg1.ty.shape.size a) = fun _ => 0 :=
    funext fun a => by rcases fin_N1 t with rfl | rfl | rfl | rfl | rfl | rfl | rfl | rfl <;> fin_cases a <;> decide
  exact Memref.read_access_unit_zero (Elt F) main_arg1 h (fun a => by rw [congrFun h a]; simp) (V c main_arg1)

theorem in1_2 (c : Dev nD) (t : Fin cfg1.N) : (iblk1 V c 2 t : Vec F S1024x1024 .f32) = V c main_v40_0 := by
  have h : (fun a => win1_2.index t a * main_v40_0.ty.shape.size a) = fun _ => 0 :=
    funext fun a => by rcases fin_N1 t with rfl | rfl | rfl | rfl | rfl | rfl | rfl | rfl <;> fin_cases a <;> decide
  exact Memref.read_access_unit_zero (Elt F) main_v40_0 h (fun a => by rw [congrFun h a]; simp) (V c main_v40_0)

theorem in1_3 (c : Dev nD) (t : Fin cfg1.N) : (iblk1 V c 3 t : Vec F S1024x1024 .bf16) = V c main_v40_1 := by
  have h : (fun a => win1_3.index t a * main_v40_1.ty.shape.size a) = fun _ => 0 :=
    funext fun a => by rcases fin_N1 t with rfl | rfl | rfl | rfl | rfl | rfl | rfl | rfl <;> fin_cases a <;> decide
  exact Memref.read_access_unit_zero (Elt F) main_v40_1 h (fun a => by rw [congrFun h a]; simp) (V c main_v40_1)

theorem in1_4 (c : Dev nD) (t : Fin cfg1.N) : (iblk1 V c 4 t : Vec F S1024x1024 .bf16) = V c main_v40_2 := by
  have h : (fun a => win1_4.index t a * main_v40_2.ty.shape.size a) = fun _ => 0 :=
    funext fun a => by rcases fin_N1 t with rfl | rfl | rfl | rfl | rfl | rfl | rfl | rfl <;> fin_cases a <;> decide
  exact Memref.read_access_unit_zero (Elt F) main_v40_2 h (fun a => by rw [congrFun h a]; simp) (V c main_v40_2)

theorem in1_5 (c : Dev nD) (t : Fin cfg1.N) : (iblk1 V c 5 t : Vec F S1024x1024 .bf16) = V c main_v40_3 := by
  have h : (fun a => win1_5.index t a * main_v40_3.ty.shape.size a) = fun _ => 0 :=
    funext fun a => by rcases fin_N1 t with rfl | rfl | rfl | rfl | rfl | rfl | rfl | rfl <;> fin_cases a <;> decide
  exact Memref.read_access_unit_zero (Elt F) main_v40_3 h (fun a => by rw [congrFun h a]; simp) (V c main_v40_3)

/-- Row `r` of the patches staged at point `t` is row `256 t + r` of the array. -/
theorem in1_0 (c : Dev nD) (t : Fin cfg1.N) (r : Fin 256) (k : Fin 1024) (n : Fin 2048) (hn : n.val = 256 * t.val + r.val) :
    (iblk1 V c 0 t : Vec F S256x1024 .f32) (ix2 r k) = (V c main_v39 : Vec F S2048x1024 .f32) (ix2 n k) := by
  have hi : win1_0.index t 0 = t.val ∧ win1_0.index t 1 = 0 := by
    rcases fin_N1 t with rfl | rfl | rfl | rfl | rfl | rfl | rfl | rfl <;> decide
  unfold iblk1
  rw [View.read_apply]
  show V c main_v39 _ = V c main_v39 _
  congr 1
  funext a
  apply Fin.ext
  match a with
  | ⟨0, _⟩ => show win1_0.index t 0 * 256 + 1 * r.val = n.val; rw [hi.1]; omega
  | ⟨1, _⟩ => show win1_0.index t 1 * 1024 + 1 * k.val = k.val; rw [hi.2]; omega

theorem gram_1 (c : Dev nD) : (dat0 V c).arrAt 1 cfg0.N = (out0_1 (V c main_arg1) : Vec F S1024x1024 .f32) := by
  refine (dat0 V c).arrAt_eq_of_cover 1 (out0_1 (V c main_arg1)) (fun t _ => ?_) fun i => ⟨t0_0, flush0_1 t0_0, ?_⟩
  · obtain rfl := fin_N0 t
    show (cfg0.win 1).cut (grid0.coords t0_0) ((dat0 V c).after 1 t0_0) = _
    rw [after0_1, in0]
    have h : (fun a => win0_1.index t0_0 a * main_v40_0.ty.shape.size a) = fun _ => 0 := funext fun a => by fin_cases a <;> decide
    exact (Memref.read_access_unit_zero (Elt F) main_v40_0 h (fun a => by rw [congrFun h a]; simp) (out0_1 (V c main_arg1))).symm
  · show i ∈ ((View.whole main_v40_0).slice (win0_1.rect t0_0)).set
    rw [View.set_slice_whole, Rect.mem_set_unit]
    intro a
    have h0 : (i 0 : Nat) < 1024 := (i 0).isLt
    have h1 : (i 1 : Nat) < 1024 := (i 1).isLt
    match a with
    | ⟨0, _⟩ =>
      show win0_1.index t0_0 0 * win0_1.size 0 ≤ (i 0 : Nat) ∧ (i 0 : Nat) < win0_1.index t0_0 0 * win0_1.size 0 + win0_1.xsize (grid0.coords t0_0) 0
      rw [show win0_1.index t0_0 0 * win0_1.size 0 = 0 from by decide +kernel, show win0_1.xsize (grid0.coords t0_0) 0 = 1024 from by decide +kernel]
      omega
    | ⟨1, _⟩ =>
      show win0_1.index t0_0 1 * win0_1.size 1 ≤ (i 1 : Nat) ∧ (i 1 : Nat) < win0_1.index t0_0 1 * win0_1.size 1 + win0_1.xsize (grid0.coords t0_0) 1
      rw [show win0_1.index t0_0 1 * win0_1.size 1 = 0 from by decide +kernel, show win0_1.xsize (grid0.coords t0_0) 1 = 1024 from by decide +kernel]
      omega

theorem gram_2 (c : Dev nD) : (dat0 V c).arrAt 2 cfg0.N = (out0_2 (V c main_arg1) : Vec F S1024x1024 .bf16) := by
  refine (dat0 V c).arrAt_eq_of_cover 2 (out0_2 (V c main_arg1)) (fun t _ => ?_) fun i => ⟨t0_0, flush0_2 t0_0, ?_⟩
  · obtain rfl := fin_N0 t
    show (cfg0.win 2).cut (grid0.coords t0_0) ((dat0 V c).after 2 t0_0) = _
    rw [after0_2, in0]
    have h : (fun a => win0_2.index t0_0 a * main_v40_1.ty.shape.size a) = fun _ => 0 := funext fun a => by fin_cases a <;> decide
    exact (Memref.read_access_unit_zero (Elt F) main_v40_1 h (fun a => by rw [congrFun h a]; simp) (out0_2 (V c main_arg1))).symm
  · show i ∈ ((View.whole main_v40_1).slice (win0_2.rect t0_0)).set
    rw [View.set_slice_whole, Rect.mem_set_unit]
    intro a
    have h0 : (i 0 : Nat) < 1024 := (i 0).isLt
    have h1 : (i 1 : Nat) < 1024 := (i 1).isLt
    match a with
    | ⟨0, _⟩ =>
      show win0_2.index t0_0 0 * win0_2.size 0 ≤ (i 0 : Nat) ∧ (i 0 : Nat) < win0_2.index t0_0 0 * win0_2.size 0 + win0_2.xsize (grid0.coords t0_0) 0
      rw [show win0_2.index t0_0 0 * win0_2.size 0 = 0 from by decide +kernel, show win0_2.xsize (grid0.coords t0_0) 0 = 1024 from by decide +kernel]
      omega
    | ⟨1, _⟩ =>
      show win0_2.index t0_0 1 * win0_2.size 1 ≤ (i 1 : Nat) ∧ (i 1 : Nat) < win0_2.index t0_0 1 * win0_2.size 1 + win0_2.xsize (grid0.coords t0_0) 1
      rw [show win0_2.index t0_0 1 * win0_2.size 1 = 0 from by decide +kernel, show win0_2.xsize (grid0.coords t0_0) 1 = 1024 from by decide +kernel]
      omega

theorem gram_3 (c : Dev nD) : (dat0 V c).arrAt 3 cfg0.N = (out0_3 (V c main_arg1) : Vec F S1024x1024 .bf16) := by
  refine (dat0 V c).arrAt_eq_of_cover 3 (out0_3 (V c main_arg1)) (fun t _ => ?_) fun i => ⟨t0_0, flush0_3 t0_0, ?_⟩
  · obtain rfl := fin_N0 t
    show (cfg0.win 3).cut (grid0.coords t0_0) ((dat0 V c).after 3 t0_0) = _
    rw [after0_3, in0]
    have h : (fun a => win0_3.index t0_0 a * main_v40_2.ty.shape.size a) = fun _ => 0 := funext fun a => by fin_cases a <;> decide
    exact (Memref.read_access_unit_zero (Elt F) main_v40_2 h (fun a => by rw [congrFun h a]; simp) (out0_3 (V c main_arg1))).symm
  · show i ∈ ((View.whole main_v40_2).slice (win0_3.rect t0_0)).set
    rw [View.set_slice_whole, Rect.mem_set_unit]
    intro a
    have h0 : (i 0 : Nat) < 1024 := (i 0).isLt
    have h1 : (i 1 : Nat) < 1024 := (i 1).isLt
    match a with
    | ⟨0, _⟩ =>
      show win0_3.index t0_0 0 * win0_3.size 0 ≤ (i 0 : Nat) ∧ (i 0 : Nat) < win0_3.index t0_0 0 * win0_3.size 0 + win0_3.xsize (grid0.coords t0_0) 0
      rw [show win0_3.index t0_0 0 * win0_3.size 0 = 0 from by decide +kernel, show win0_3.xsize (grid0.coords t0_0) 0 = 1024 from by decide +kernel]
      omega
    | ⟨1, _⟩ =>
      show win0_3.index t0_0 1 * win0_3.size 1 ≤ (i 1 : Nat) ∧ (i 1 : Nat) < win0_3.index t0_0 1 * win0_3.size 1 + win0_3.xsize (grid0.coords t0_0) 1
      rw [show win0_3.index t0_0 1 * win0_3.size 1 = 0 from by decide +kernel, show win0_3.xsize (grid0.coords t0_0) 1 = 1024 from by decide +kernel]
      omega

theorem gram_4 (c : Dev nD) : (dat0 V c).arrAt 4 cfg0.N = (out0_4 (V c main_arg1) : Vec F S1024x1024 .bf16) := by
  refine (dat0 V c).arrAt_eq_of_cover 4 (out0_4 (V c main_arg1)) (fun t _ => ?_) fun i => ⟨t0_0, flush0_4 t0_0, ?_⟩
  · obtain rfl := fin_N0 t
    show (cfg0.win 4).cut (grid0.coords t0_0) ((dat0 V c).after 4 t0_0) = _
    rw [after0_4, in0]
    have h : (fun a => win0_4.index t0_0 a * main_v40_3.ty.shape.size a) = fun _ => 0 := funext fun a => by fin_cases a <;> decide
    exact (Memref.read_access_unit_zero (Elt F) main_v40_3 h (fun a => by rw [congrFun h a]; simp) (out0_4 (V c main_arg1))).symm
  · show i ∈ ((View.whole main_v40_3).slice (win0_4.rect t0_0)).set
    rw [View.set_slice_whole, Rect.mem_set_unit]
    intro a
    have h0 : (i 0 : Nat) < 1024 := (i 0).isLt
    have h1 : (i 1 : Nat) < 1024 := (i 1).isLt
    match a with
    | ⟨0, _⟩ =>
      show win0_4.index t0_0 0 * win0_4.size 0 ≤ (i 0 : Nat) ∧ (i 0 : Nat) < win0_4.index t0_0 0 * win0_4.size 0 + win0_4.xsize (grid0.coords t0_0) 0
      rw [show win0_4.index t0_0 0 * win0_4.size 0 = 0 from by decide +kernel, show win0_4.xsize (grid0.coords t0_0) 0 = 1024 from by decide +kernel]
      omega
    | ⟨1, _⟩ =>
      show win0_4.index t0_0 1 * win0_4.size 1 ≤ (i 1 : Nat) ∧ (i 1 : Nat) < win0_4.index t0_0 1 * win0_4.size 1 + win0_4.xsize (grid0.coords t0_0) 1
      rw [show win0_4.index t0_0 1 * win0_4.size 1 = 0 from by decide +kernel, show win0_4.xsize (grid0.coords t0_0) 1 = 1024 from by decide +kernel]
      omega

/-- The point whose band holds row `n`. -/
def pt (n : Fin 2048) : Fin cfg1.N := ⟨n.val / 256, by rw [show cfg1.N = 8 from N_1]; omega⟩
/-- The row's place in its band. -/
def inBand (n : Fin 2048) : Fin 256 := ⟨n.val % 256, Nat.mod_lt _ (by decide)⟩

theorem pt_inBand (n : Fin 2048) : n.val = 256 * (pt n).val + (inBand n).val := (Nat.div_add_mod n.val 256).symm

/-- The reconstructed rows: each from the point of its band. -/
def recon (c : Dev nD) : Vec F S2048x1024 .f32 := fun i => outsAt1 V c (pt (i 0)) (ix2 (inBand (i 0)) (i 1))

theorem recon_at (c : Dev nD) (t : Fin cfg1.N) (y : S256x1024.Idx) (i : S2048x1024.Idx)
    (h0 : (i 0 : Nat) = 256 * t.val + (y 0 : Nat)) (h1 : (i 1 : Nat) = (y 1 : Nat)) :
    outsAt1 V c t y = recon V c i := by
  have hy0 : (y 0 : Nat) < 256 := (y 0).isLt
  have e0 : pt (i 0) = t := Fin.ext (by show (i 0 : Nat) / 256 = t.val; omega)
  have e1 : (ix2 (inBand (i 0)) (i 1) : S256x1024.Idx) = y := by
    funext a
    apply Fin.ext
    match a with
    | ⟨0, _⟩ => show (i 0 : Nat) % 256 = (y 0 : Nat); omega
    | ⟨1, _⟩ => exact h1
  unfold recon
  rw [e0]
  exact congrArg _ e1.symm

theorem omp_6 (c : Dev nD) : (dat1 V c).arrAt 6 cfg1.N = recon V c := by
  have hi : ∀ t : Fin cfg1.N, win1_6.index t 0 = t.val ∧ win1_6.index t 1 = 0 := fun t => by
    rcases fin_N1 t with rfl | rfl | rfl | rfl | rfl | rfl | rfl | rfl <;> decide
  have hs : ∀ t : Fin cfg1.N, win1_6.xsize (grid1.coords t) 0 = 256 ∧ win1_6.xsize (grid1.coords t) 1 = 1024 := fun t => by
    rcases fin_N1 t with rfl | rfl | rfl | rfl | rfl | rfl | rfl | rfl <;> decide
  refine (dat1 V c).arrAt_eq_of_cover 6 (recon V c) (fun t _ => ?_) fun i => ⟨pt (i 0), flush1_6 _, ?_⟩
  · show (cfg1.win 6).cut (grid1.coords t) ((dat1 V c).after 6 t) = _
    rw [after1_6]
    generalize hX : outsAt1 V c t = X
    generalize hY : recon V c = Y
    funext y
    rw [View.read_apply]
    show X y = Y _
    rw [← hX, ← hY]
    refine recon_at V c t y _ ?_ ?_
    · show win1_6.index t 0 * 256 + 1 * (y 0 : Nat) = 256 * t.val + (y 0 : Nat)
      rw [(hi t).1]; omega
    · show win1_6.index t 1 * 1024 + 1 * (y 1 : Nat) = (y 1 : Nat)
      rw [(hi t).2]; omega
  · show i ∈ ((View.whole main_v41).slice (win1_6.rect (pt (i 0)))).set
    rw [View.set_slice_whole, Rect.mem_set_unit]
    intro a
    have h0 : (i 0 : Nat) < 2048 := (i 0).isLt
    have h1 : (i 1 : Nat) < 1024 := (i 1).isLt
    match a with
    | ⟨0, _⟩ =>
      show win1_6.index (pt (i 0)) 0 * 256 ≤ (i 0 : Nat) ∧ (i 0 : Nat) < win1_6.index (pt (i 0)) 0 * 256 + win1_6.xsize (grid1.coords (pt (i 0))) 0
      rw [(hi _).1, (hs _).1]
      show (i 0 : Nat) / 256 * 256 ≤ (i 0 : Nat) ∧ (i 0 : Nat) < (i 0 : Nat) / 256 * 256 + 256
      omega
    | ⟨1, _⟩ =>
      show win1_6.index (pt (i 0)) 1 * 1024 ≤ (i 1 : Nat) ∧ (i 1 : Nat) < win1_6.index (pt (i 0)) 1 * 1024 + win1_6.xsize (grid1.coords (pt (i 0))) 1
      rw [(hi _).2, (hs _).2]
      omega

end Cert.Omp.Blocks
-- ==== Proof.Model.lean ====
/- What one block of 256 patches computes, written over the whole [256, 1] and [256, 1024] registers in the order in
   which the kernel's body does it, for an ARBITRARY sequence `idx` of chosen atoms: the table of the elimination, the
   Cholesky rows, the forward and backward substitutions, the weights, the residual correlations, the mask and the
   next choice. Nothing here speaks of a value; `Body.lean` shows that the body's stores are these. -/
module

public import proofs.«01_k».proof.Proof.Gen.KernelIdeal.Skeleton

@[expose] public section

noncomputable section

namespace Cert.Omp

open Idealize.ShloMosaic Cert.KernelIdeal Cert.KernelIdeal.Gen

variable {F : FTy → Type} [FloatOps F]

/-- A column of 256 numbers, one per patch. -/
abbrev Col (F : FTy → Type) := FVec F S256x1 .f32
/-- A row of 1024 numbers for each of the 256 patches. -/
abbrev Rows (F : FTy → Type) := FVec F S256x1024 .f32

/-- What the body reads of its six windows. -/
structure Inp (F : FTy → Type) where
  x : FVec F S256x1024 .f32
  d : FVec F S1024x1024 .f32
  g : FVec F S1024x1024 .f32
  gh : FVec F S1024x1024 .bf16
  gm : FVec F S1024x1024 .bf16
  gl : FVec F S1024x1024 .bf16

/-- The atoms' numbers along a row. -/
def lanes : IVec S256x1024 32 := iota .tc S256x1024 32 [1] iota_S256x1024_d1_w32

/-- The sum of each row. -/
def rowSum (v : Rows F) : Col F :=
  shapeCast S256x1 (multiReduction .add [1] S256 v 0x00000000#32 reduces_S256x1024_S256 (.inl rfl) rfl)
    shapeCasts_S256_S256x1

/-- A column repeated along the rows. -/
def wide (v : Col F) : Rows F := broadcastTo S256x1024 v broadcasts_S256x1_S256x1024

/-- The product of rows by a matrix. -/
def times (v : Rows F) (g : FVec F S1024x1024 .f32) : Rows F :=
  matmul dot_S256x1024_S1024x1024_S256x1024_1_0_0_1_n_n none v g (constant S256x1024 .f32 0x00000000#32)

/-- The same with the two factors in the short format. -/
def times16 (v : FVec F S256x1024 .bf16) (g : FVec F S1024x1024 .bf16) : Rows F :=
  matmul dot_S256x1024_S1024x1024_S256x1024_1_0_0_1_n_n none v g (constant S256x1024 .f32 0x00000000#32)

section chosen

variable (I : Inp F) (idx : ℕ → IVec S256x1 32)

/-- Where the atom chosen `a`-th is, as a mask along the row. -/
def hitB (a : ℕ) : IVec S256x1024 1 :=
  cmpi .eq lanes (broadcastTo S256x1024 (idx a) broadcasts_S256x1_S256x1024)

/-- The same mask as zeros and ones. -/
def hit (a : ℕ) : Rows F := sitofp .f32 (extui 32 (hitB idx a) natLt_1_32)

/-- The correlations of the patches with the atoms. -/
def hbar : Rows F := times I.x I.d

/-- The row of the Gram matrix at the atom chosen `a`-th, put together from its three parts. -/
def grow (a : ℕ) : Rows F :=
  addf (addf (times16 (truncf .bf16 (hit idx a) bitsLt_bf16_f32) I.gh)
    (times16 (truncf .bf16 (hit idx a) bitsLt_bf16_f32) I.gm))
    (times16 (truncf .bf16 (hit idx a) bitsLt_bf16_f32) I.gl)

/-- The table of an elimination: its entries, and the diagonal (which starts with the regularisation) apart. -/
structure Tab (F : FTy → Type) where
  s : ℕ → ℕ → FVec F S256x1 .f32
  p : ℕ → FVec F S256x1 .f32

/-- The reciprocal of the root of a pivot. -/
def root (v : Col F) : Col F :=
  divf (broadcast S256x1 (Scalar.ofBits .f32 0x3F800000#32))
    (sqrt (maximumf v (broadcast S256x1 (Scalar.ofBits .f32 0x1E3CE508#32))))

/-- Column `n` of the triangular factor, from the table that elimination `n` finds. -/
def fac (T : Tab F) (n i : ℕ) : Col F := mulf (T.s i n) (root (T.p n))

/-- The table after `n` eliminations. -/
def tab : ℕ → Tab F
  | 0 => ⟨fun i k => rowSum (mulf (grow I idx i) (hit idx k)),
      fun i => addf (rowSum (mulf (grow I idx i) (hit idx i))) (broadcast S256x1 (Scalar.ofBits .f32 0x358637BD#32))⟩
  | n + 1 => ⟨fun i k => subf ((tab n).s i k) (mulf (fac (tab n) n i) (fac (tab n) n k)),
      fun i => subf ((tab n).p i) (mulf (fac (tab n) n i) (fac (tab n) n i))⟩

def S (n i k : ℕ) : Col F := (tab I idx n).s i k
def Pv (n i : ℕ) : Col F := (tab I idx n).p i
def R (n : ℕ) : Col F := root (Pv I idx n n)
def L (n i : ℕ) : Col F := fac (tab I idx n) n i

/-- The right-hand sides after `n` steps of the forward substitution. -/
def Y : ℕ → ℕ → Col F
  | 0 => fun i => rowSum (mulf (hbar I) (hit idx i))
  | n + 1 => fun i => subf (Y n i) (mulf (L I idx n i) (mulf (Y n n) (R I idx n)))

def y (n : ℕ) : Col F := mulf (Y I idx n n) (R I idx n)

/-- Row `i` of the backward substitution after `n` of its terms are taken off, given the later unknowns. -/
def back (X : ℕ → Col F) (i : ℕ) : ℕ → Col F
  | 0 => y I idx i
  | n + 1 => subf (back X i n) (mulf (L I idx i (i + 1 + n)) (X (i + 1 + n)))

/-- The last `n` unknowns of the system of the first `m` atoms. -/
def sol (m : ℕ) : ℕ → ℕ → Col F
  | 0 => fun i => y I idx i
  | n + 1 => fun i => if i + n + 1 = m then mulf (back I idx (sol m n) i n) (R I idx i) else sol m n i

/-- The coefficients of the first `m` atoms. -/
def X (m i : ℕ) : Col F := sol I idx m m i

def B (m i n : ℕ) : Col F := back I idx (X I idx m) i n

/-- One atom's share of the weights. -/
def share (m a : ℕ) : Rows F := mulf (wide (X I idx m a)) (hit idx a)

/-- The weights of the atoms up to number `n`. -/
def W (m : ℕ) : ℕ → Rows F
  | 0 => share I idx m 0
  | n + 1 => addf (W m n) (share I idx m (n + 1))

/-- What the first `m` atoms explain of the correlations. -/
def beta (m : ℕ) : Rows F := times (W I idx m (m - 1)) I.g

/-- The correlations left when `m` atoms are chosen. -/
def H : ℕ → Rows F
  | 0 => hbar I
  | m + 1 => subf (hbar I) (beta I idx (m + 1))

/-- The atoms chosen already. -/
def Mk : ℕ → IVec S256x1024 1
  | 0 => broadcast S256x1024 0#1
  | n + 1 => ori (Mk n) (hitB idx n)

/-- The scores of round `t`: chosen atoms count less than any other. -/
def sc (t : ℕ) : Rows F :=
  select (Mk idx t) (broadcast S256x1024 (Scalar.ofBits .f32 0xBF800000#32)) (absf (H I idx t))

/-- The first atom of the greatest score. -/
def first (s : Rows F) : IVec S256x1 32 :=
  shapeCast S256x1 (multiReductionI .minsi [1] S256
    (select (cmpf .oeq s (wide (shapeCast S256x1 (multiReduction .maximumf [1] S256 s 0xFF800000#32
      reduces_S256x1024_S256 (.inl rfl) rfl) shapeCasts_S256_S256x1))) lanes (broadcast S256x1024 1024#32))
    2147483647#32 reduces_S256x1024_S256 rfl) shapeCasts_S256_S256x1

/-- The body's result. -/
def out : Rows F :=
  matmul dot_S256x1024_S1024x1024_S256x1024_1_1_0_0_n_n none (W I idx 8 7) I.d (constant S256x1024 .f32 0x00000000#32)

end chosen

/-! The unknowns of the backward substitution, by their equation. -/

section back

variable (I : Inp F) (idx : ℕ → IVec S256x1 32)

theorem sol_settled (m i : ℕ) : ∀ n, m ≤ i + n → ∀ e, sol I idx m (n + e) i = sol I idx m n i
  | n, _, 0 => rfl
  | n, h, e + 1 => by
    have hne : ¬ (i + (n + e) + 1 = m) := by omega
    show (if i + (n + e) + 1 = m then _ else sol I idx m (n + e) i) = _
    rw [if_neg hne]
    exact sol_settled m i n h e

theorem back_congr (U V : ℕ → Col F) (i : ℕ) : ∀ n, (∀ k, i < k → k ≤ i + n → U k = V k) →
    back I idx U i n = back I idx V i n
  | 0, _ => rfl
  | n + 1, h => by
    show subf _ (mulf _ (U (i + 1 + n))) = subf _ (mulf _ (V (i + 1 + n)))
    rw [back_congr U V i n (fun k h1 h2 => h k h1 (by omega)), h (i + 1 + n) (by omega) (by omega)]

theorem X_eq (m i n : ℕ) (h : i + n + 1 = m) : mulf (B I idx m i n) (R I idx i) = X I idx m i := by
  have e : X I idx m i = sol I idx m (n + 1) i := by
    have := sol_settled I idx m i (n + 1) (by omega) i
    rw [← this]
    unfold X
    congr 1
    omega
  rw [e]
  show _ = if i + n + 1 = m then _ else _
  rw [if_pos h]
  unfold B
  rw [back_congr I idx (X I idx m) (sol I idx m n) i n]
  intro k h1 h2
  unfold X
  have := sol_settled I idx m k n (by omega) (i + 1)
  rw [← this]
  congr 1
  omega

end back

end Cert.Omp

end
-- ==== Proof.Math.lean ====
/- The linear algebra of the two programs over the real numbers, for a symmetric matrix `A` whose quadratic form on the
   first `m` indices is at least `e` times the sum of squares (`e > 0`): every pivot of the elimination is at least `e`;
   the Cholesky rows with the forward and the backward substitution solve `A x = b`; and so does Gauss–Jordan's
   elimination of `[A | b]`. -/
module

public import Mathlib.Analysis.Real.Sqrt
public import Mathlib.Algebra.BigOperators.Intervals
public import Mathlib.Algebra.BigOperators.Field
public import Mathlib.Algebra.Order.BigOperators.Group.Finset
public import Mathlib.Tactic.Linarith
public import Mathlib.Tactic.Positivity
public import Mathlib.Tactic.FieldSimp
public import Mathlib.Tactic.Ring

@[expose] public section

noncomputable section

namespace Cert.Omp.Math

open Finset

variable (A : ℕ → ℕ → ℝ) (b : ℕ → ℝ)

/-- The matrix left after the elimination of the first `n` indices. -/
def T : ℕ → ℕ → ℕ → ℝ
  | 0, i, k => A i k
  | n + 1, i, k => T n i k - T n i n * T n k n / T n n n

/-- The quadratic form of `A` on the first `m` indices is at least `e` times the sum of squares. -/
def Pos (e : ℝ) (m : ℕ) : Prop :=
  ∀ v : ℕ → ℝ, e * ∑ i ∈ range m, v i ^ 2 ≤ ∑ i ∈ range m, ∑ k ∈ range m, v i * v k * A i k

variable {A} {b}

theorem T_symm (hs : ∀ i k, A i k = A k i) (n i k : ℕ) : T A n i k = T A n k i := by
  induction n generalizing i k with
  | zero => exact hs i k
  | succ n ih => simp only [T]; rw [ih i k]; ring

/-- A vector with its entry at `n` put to `x`. -/
def put (n : ℕ) (x : ℝ) (v : ℕ → ℝ) (i : ℕ) : ℝ := if i = n then x else v i

theorem put_of_mem {n m : ℕ} (x : ℝ) (v : ℕ → ℝ) {i : ℕ} (h : i ∈ Ico (n + 1) m) : put n x v i = v i :=
  if_neg (by have := (mem_Ico.1 h).1; omega)

theorem squares_put {n m : ℕ} (hn : n < m) (x : ℝ) (v : ℕ → ℝ) :
    ∑ i ∈ Ico n m, put n x v i ^ 2 = x ^ 2 + ∑ i ∈ Ico (n + 1) m, v i ^ 2 := by
  rw [Finset.sum_eq_sum_Ico_succ_bot hn, Finset.sum_congr rfl fun i hi => by rw [put_of_mem x v hi]]
  simp [put]

theorem row_put {n m : ℕ} (hn : n < m) (x : ℝ) (v w : ℕ → ℝ) :
    ∑ k ∈ Ico n m, put n x v k * w k = x * w n + ∑ k ∈ Ico (n + 1) m, v k * w k := by
  rw [Finset.sum_eq_sum_Ico_succ_bot hn, Finset.sum_congr rfl fun i hi => by rw [put_of_mem x v hi]]
  simp [put]

theorem form_put (M : ℕ → ℕ → ℝ) (hM : ∀ i k, M i k = M k i) {n m : ℕ} (hn : n < m) (x : ℝ) (v : ℕ → ℝ) :
    ∑ i ∈ Ico n m, ∑ k ∈ Ico n m, put n x v i * put n x v k * M i k
      = x * x * M n n + 2 * x * ∑ k ∈ Ico (n + 1) m, v k * M k n
        + ∑ i ∈ Ico (n + 1) m, ∑ k ∈ Ico (n + 1) m, v i * v k * M i k := by
  have e : ∀ i, ∑ k ∈ Ico n m, put n x v i * put n x v k * M i k
      = put n x v i * (x * M i n + ∑ k ∈ Ico (n + 1) m, v k * M i k) := fun i => by
    rw [← row_put hn x v (M i), Finset.mul_sum]; exact Finset.sum_congr rfl fun k _ => by ring
  simp only [e]
  rw [row_put hn x v fun i => x * M i n + ∑ k ∈ Ico (n + 1) m, v k * M i k]
  have e2 : ∑ i ∈ Ico (n + 1) m, v i * (x * M i n + ∑ k ∈ Ico (n + 1) m, v k * M i k)
      = x * ∑ k ∈ Ico (n + 1) m, v k * M k n + ∑ i ∈ Ico (n + 1) m, ∑ k ∈ Ico (n + 1) m, v i * v k * M i k := by
    rw [Finset.mul_sum, ← Finset.sum_add_distrib]
    refine Finset.sum_congr rfl fun i _ => ?_
    rw [mul_add, Finset.mul_sum, Finset.sum_congr rfl fun k _ => (mul_assoc (v i) (v k) (M i k)).symm]
    ring
  rw [e2, Finset.sum_congr rfl fun k _ => by rw [hM n k]]
  ring

/-- The form's bound on the unit vector at `n` bounds the entry there. -/
theorem diag_of_form (M : ℕ → ℕ → ℝ) (hM : ∀ i k, M i k = M k i) {e : ℝ} {n m : ℕ} (hn : n < m)
    (h : ∀ v : ℕ → ℝ, e * ∑ i ∈ Ico n m, v i ^ 2 ≤ ∑ i ∈ Ico n m, ∑ k ∈ Ico n m, v i * v k * M i k) : e ≤ M n n := by
  have := h (put n 1 fun _ => 0)
  rw [squares_put hn, form_put M hM hn] at this
  simpa using this

/-- What is left keeps the bound. -/
theorem pos_T (hs : ∀ i k, A i k = A k i) {e : ℝ} (he : 0 < e) {m : ℕ} (hp : Pos A e m) (n : ℕ) (hn : n ≤ m)
    (v : ℕ → ℝ) : e * ∑ i ∈ Ico n m, v i ^ 2 ≤ ∑ i ∈ Ico n m, ∑ k ∈ Ico n m, v i * v k * T A n i k := by
  induction n generalizing v with
  | zero => simpa [T] using hp v
  | succ n ih =>
    have hn' : n < m := hn
    have ih := ih hn'.le
    have hd : 0 < T A n n n := he.trans_le (diag_of_form _ (T_symm hs n) hn' ih)
    set d := T A n n n with hdd
    set s := ∑ j ∈ Ico (n + 1) m, v j * T A n j n with hss
    have h := ih (put n (-s / d) v)
    rw [squares_put hn', form_put _ (T_symm hs n) hn', ← hss, ← hdd] at h
    have q : ∑ i ∈ Ico (n + 1) m, ∑ k ∈ Ico (n + 1) m, v i * v k * T A (n + 1) i k
        = ∑ i ∈ Ico (n + 1) m, ∑ k ∈ Ico (n + 1) m, v i * v k * T A n i k - s * s / d := by
      have : s * s / d = ∑ i ∈ Ico (n + 1) m, ∑ k ∈ Ico (n + 1) m, v i * T A n i n * (v k * T A n k n) / d := by
        rw [hss, Finset.sum_mul_sum, Finset.sum_div]
        refine Finset.sum_congr rfl fun i _ => ?_
        rw [Finset.sum_div]
      rw [this, ← Finset.sum_sub_distrib]
      refine Finset.sum_congr rfl fun i _ => ?_
      rw [← Finset.sum_sub_distrib]
      refine Finset.sum_congr rfl fun k _ => ?_
      simp only [T]; ring
    rw [q]
    have e1 : -s / d * (-s / d) * d = s * s / d := by field_simp
    have e2 : 2 * (-s / d) * s = - (2 * (s * s / d)) := by ring
    rw [e1, e2] at h
    have : 0 ≤ e * (-s / d) ^ 2 := by positivity
    linarith

/-- Every pivot is at least the bound. -/
theorem pivot_le (hs : ∀ i k, A i k = A k i) {e : ℝ} (he : 0 < e) {m : ℕ} (hp : Pos A e m) (n : ℕ) (hn : n < m) :
    e ≤ T A n n n := diag_of_form _ (T_symm hs n) hn (pos_T hs he hp n hn.le)

/-- An eliminated row is zero. -/
theorem T_zero (hs : ∀ i k, A i k = A k i) (n i k : ℕ) (hi : i < n) (hd : ∀ p < n, T A p p p ≠ 0) : T A n i k = 0 := by
  induction n generalizing k with
  | zero => omega
  | succ n ih =>
    simp only [T]
    rcases Nat.lt_succ_iff_lt_or_eq.1 hi with h | rfl
    · rw [ih k h fun p hp => hd p (by omega), ih n h fun p hp => hd p (by omega)]; ring
    · rw [T_symm hs i k i, mul_comm, mul_div_assoc, div_self (hd i (by omega))]; ring

variable (A) (b)

/-- The reciprocal square root of the pivot. -/
def rt (n : ℕ) : ℝ := 1 / Real.sqrt (T A n n n)

/-- The Cholesky row: `Lr n i` is the entry of row `i` and column `n`. -/
def Lr (n i : ℕ) : ℝ := T A n i n * rt A n

/-- What the forward substitution leaves of the right-hand side after `n` steps. -/
def Yr : ℕ → ℕ → ℝ
  | 0, i => b i
  | n + 1, i => Yr n i - Lr A n i * (Yr n n * rt A n)

/-- The forward substitution's solution. -/
def yr (n : ℕ) : ℝ := Yr A b n n * rt A n

variable {A} {b}

theorem rt_sq {n : ℕ} (h : 0 < T A n n n) : rt A n * rt A n * T A n n n = 1 := by
  unfold rt
  have := Real.mul_self_sqrt h.le
  have h0 : Real.sqrt (T A n n n) ≠ 0 := (Real.sqrt_pos.2 h).ne'
  field_simp
  linarith [Real.sq_sqrt h.le]

theorem rt_pos {n : ℕ} (h : 0 < T A n n n) : 0 < rt A n := by
  unfold rt
  have := Real.sqrt_pos.2 h
  positivity

/-- One step of the elimination, by the Cholesky rows. -/
theorem T_succ {n : ℕ} (h : 0 < T A n n n) (i k : ℕ) : T A n i k - Lr A n i * Lr A n k = T A (n + 1) i k := by
  have e := rt_sq h
  have : rt A n * rt A n = 1 / T A n n n := by field_simp; linarith
  simp only [T, Lr]
  have e2 : T A n i n * rt A n * (T A n k n * rt A n) = T A n i n * T A n k n * (rt A n * rt A n) := by ring
  rw [e2, this]; ring

theorem A_eq (m i k : ℕ) (hd : ∀ p < m, 0 < T A p p p) : A i k = T A m i k + ∑ n ∈ range m, Lr A n i * Lr A n k := by
  induction m with
  | zero => simp [T]
  | succ m ih =>
    rw [Finset.sum_range_succ, ← T_succ (hd m (by omega)), ih fun p hp => hd p (by omega)]; ring

theorem Y_eq (n i : ℕ) : b i = Yr A b n i + ∑ p ∈ range n, Lr A p i * yr A b p := by
  induction n with
  | zero => simp [Yr]
  | succ n ih => rw [Finset.sum_range_succ, ih]; simp only [Yr, yr]; ring

theorem L_zero (hs : ∀ i k, A i k = A k i) {p i : ℕ} (h : i < p) (hd : ∀ q < p, 0 < T A q q q) : Lr A p i = 0 := by
  unfold Lr; rw [T_zero hs p i p h fun q hq => (hd q hq).ne']; ring

theorem L_diag {n : ℕ} (h : 0 < T A n n n) : Lr A n n * rt A n = 1 := by
  have := rt_sq h; unfold Lr; linarith

/-- A solution `x` of the backward substitution solves `A x = b`. -/
theorem chol_solves (hs : ∀ i k, A i k = A k i) {m : ℕ} (hd : ∀ p < m, 0 < T A p p p) (x : ℕ → ℝ)
    (hx : ∀ i < m, x i = (yr A b i - ∑ k ∈ Ico (i + 1) m, Lr A i k * x k) * rt A i) :
    ∀ i < m, ∑ k ∈ range m, A i k * x k = b i := by
  have hL : ∀ n < m, ∑ k ∈ range m, Lr A n k * x k = yr A b n := fun n hn => by
    have h0 : ∑ k ∈ range n, Lr A n k * x k = 0 := Finset.sum_eq_zero fun k hk => by
      rw [L_zero hs (Finset.mem_range.1 hk) fun q hq => hd q (by omega)]; ring
    rw [← Finset.sum_range_add_sum_Ico _ hn.le, h0, Finset.sum_eq_sum_Ico_succ_bot hn, zero_add]
    have h1 := hx n hn
    have h2 := L_diag (hd n hn)
    have : Lr A n n * x n = yr A b n - ∑ k ∈ Ico (n + 1) m, Lr A n k * x k := by
      rw [h1]
      calc _ = (Lr A n n * rt A n) * (yr A b n - ∑ k ∈ Ico (n + 1) m, Lr A n k * x k) := by ring
        _ = _ := by rw [h2, one_mul]
    rw [this]; ring
  intro i hi
  have e1 : ∑ k ∈ range m, A i k * x k = ∑ n ∈ range m, Lr A n i * yr A b n := by
    calc _ = ∑ k ∈ range m, ∑ n ∈ range m, Lr A n i * (Lr A n k * x k) :=
          Finset.sum_congr rfl fun k _ => by
            rw [A_eq m i k hd, T_zero hs m i k hi fun q hq => (hd q hq).ne', zero_add, Finset.sum_mul]
            exact Finset.sum_congr rfl fun n _ => by ring
      _ = ∑ n ∈ range m, Lr A n i * ∑ k ∈ range m, Lr A n k * x k := by
          rw [Finset.sum_comm]; exact Finset.sum_congr rfl fun n _ => (Finset.mul_sum ..).symm
      _ = _ := Finset.sum_congr rfl fun n hn => by rw [hL n (Finset.mem_range.1 hn)]
  rw [e1, ← Finset.sum_range_add_sum_Ico _ (show i + 1 ≤ m from hi), Finset.sum_eq_zero (s := Ico (i + 1) m) fun n hn => by
    rw [L_zero hs (by have := (Finset.mem_Ico.1 hn).1; omega) fun q hq =>
      hd q (by have := (Finset.mem_Ico.1 hn).2; omega), zero_mul], add_zero, Y_eq (A := A) (b := b) i i, Finset.sum_range_succ]
  have := L_diag (hd i hi)
  have : Lr A i i * yr A b i = Yr A b i i := by
    unfold yr
    calc _ = (Lr A i i * rt A i) * Yr A b i i := by ring
      _ = _ := by rw [this, one_mul]
  rw [this]; ring

variable (A) (b)

/-- Gauss–Jordan's rows of `[A | b]` (the right-hand side is column `m`) after `n` steps. -/
def GJ (m : ℕ) : ℕ → ℕ → ℕ → ℝ
  | 0, i, j => if j < m then A i j else b i
  | n + 1, i, j => if i = n then GJ m n n j / GJ m n n n else GJ m n i j - GJ m n i n * (GJ m n n j / GJ m n n n)

variable {A} {b}

/-- Below the eliminated rows the left block is the elimination's matrix. -/
theorem GJ_eq_T (hs : ∀ i k, A i k = A k i) (m n i j : ℕ) (hi : n ≤ i) (hj : j < m) (hn : n ≤ m) : GJ A b m n i j = T A n i j := by
  induction n generalizing i j with
  | zero => simp [GJ, T, hj]
  | succ n ih =>
    rw [GJ, if_neg (by omega), ih i j (by omega) hj (by omega), ih i n (by omega) (by omega) (by omega),
      ih n j le_rfl hj (by omega), ih n n le_rfl (by omega) (by omega), T, T_symm hs n n j]
    ring

theorem GJ_pivot (hs : ∀ i k, A i k = A k i) {m n : ℕ} (hn : n < m) : GJ A b m n n n = T A n n n :=
  GJ_eq_T hs m n n n le_rfl hn hn.le

theorem GJ_unit (hs : ∀ i k, A i k = A k i) {m : ℕ} (hd : ∀ p < m, 0 < T A p p p) (n i j : ℕ) (hn : n ≤ m) (hj : j < n) :
    GJ A b m n i j = if i = j then 1 else 0 := by
  induction n generalizing i j with
  | zero => omega
  | succ n ih =>
    have hp : GJ A b m n n n ≠ 0 := by rw [GJ_pivot hs (by omega)]; exact (hd n (by omega)).ne'
    rw [GJ]
    rcases Nat.lt_succ_iff_lt_or_eq.1 hj with h | rfl
    · rw [ih n j (by omega) h, ih i j (by omega) h, if_neg (show n ≠ j by omega), zero_div, mul_zero, sub_zero]
      split_ifs with h1 h2 <;> first | rfl | omega
    · rw [div_self hp]
      split_ifs <;> ring

theorem GJ_keeps {m : ℕ} (x : ℕ → ℝ) (hx : ∀ i < m, ∑ k ∈ range m, A i k * x k = b i) (n : ℕ) (hn : n ≤ m) :
    ∀ i < m, ∑ k ∈ range m, GJ A b m n i k * x k = GJ A b m n i m := by
  induction n with
  | zero =>
    intro i hi
    rw [GJ, if_neg (lt_irrefl m), ← hx i hi]
    exact Finset.sum_congr rfl fun k hk => by rw [GJ, if_pos (Finset.mem_range.1 hk)]
  | succ n ih =>
    have ih := ih (by omega)
    have hr : ∑ k ∈ range m, GJ A b m n n k / GJ A b m n n n * x k = GJ A b m n n m / GJ A b m n n n := by
      rw [← ih n (by omega), Finset.sum_div]
      exact Finset.sum_congr rfl fun k _ => by ring
    intro i hi
    by_cases h : i = n
    · simp only [GJ, if_pos h]; exact hr
    · simp only [GJ, if_neg h]
      rw [← hr, ← ih i hi, Finset.mul_sum, ← Finset.sum_sub_distrib]
      exact Finset.sum_congr rfl fun k _ => by ring

/-- Gauss–Jordan's last column is the solution. -/
theorem GJ_solves (hs : ∀ i k, A i k = A k i) {m : ℕ} (hd : ∀ p < m, 0 < T A p p p) (x : ℕ → ℝ)
    (hx : ∀ i < m, ∑ k ∈ range m, A i k * x k = b i) (i : ℕ) (hi : i < m) : GJ A b m m i m = x i := by
  rw [← GJ_keeps x hx m le_rfl i hi, Finset.sum_congr rfl fun k hk => by
    rw [GJ_unit hs hd m i k le_rfl (Finset.mem_range.1 hk)]]
  simp [hi]

end Cert.Omp.Math

end
-- ==== Proof.Spec.lean ====
/- The vocabulary in which the two programs meet, over the real numbers, for one patch: the atoms `ix 0, ix 1, …` chosen
   one after another, the system of the atoms chosen so far and its solution, the correlations left, and the rule of
   choice. Also the two programs' common text for the choice (the least index whose score is the greatest), read as
   that rule. -/
module

public import proofs.«01_k».proof.Proof.Math
public import Idealize.ShloMosaic.Lib.Pointwise

@[expose] public section

noncomputable section

namespace Cert.Omp

open Idealize.ShloMosaic Finset

/-- `i` is the first index of the greatest score. -/
def IsFirst (s : Fin 1024 → EReal) (i : Fin 1024) : Prop := (∀ k, s k ≤ s i) ∧ ∀ k, k < i → s k ≠ s i

theorem IsFirst.unique {s : Fin 1024 → EReal} {i j : Fin 1024} (hi : IsFirst s i) (hj : IsFirst s j) : i = j := by
  have e : s i = s j := le_antisymm (hj.1 i) (hi.1 j)
  rcases lt_trichotomy i j with h | h | h
  · exact absurd e (hj.2 i h)
  · exact h
  · exact absurd e.symm (hi.2 j h)

/-- Position `k` comes before position `k'` when greater numbers come first. -/
def above (s : Fin 1024 → EReal) (k k' : Fin 1024) : Bool := FloatOps.cmpfTotal (F := Ideal) (φ := .f32) .gt (s k) (s k') == 1#1

theorem above_iff (s : Fin 1024 → EReal) (k k' : Fin 1024) : above s k k' = true ↔ s k' < s k := by
  unfold above
  rw [show FloatOps.cmpfTotal (F := Ideal) (φ := .f32) .gt (s k) (s k') = BitVec.ofBool (decide (s k' < s k)) from rfl]
  by_cases h : s k' < s k <;> simp [h]

/-- A stable sort of increasing positions, greater numbers first, starts with the first of the greatest. -/
theorem stableSort_first (s : Fin 1024 → EReal) (l : List (Fin 1024)) (hl : l.Pairwise (· < ·)) (hne : l ≠ []) :
    ∃ b m, stableSort (above s) l = b :: m ∧ b ∈ l ∧ ∀ k ∈ l, s k ≤ s b ∧ (k < b → s k ≠ s b) := by
  induction l with
  | nil => exact absurd rfl hne
  | cons a l ih =>
    obtain ⟨ha, hl⟩ := List.pairwise_cons.1 hl
    rcases eq_or_ne l [] with rfl | hne
    · refine ⟨a, [], rfl, List.mem_singleton.2 rfl, fun k hk => ?_⟩
      rw [List.mem_singleton.1 hk]
      exact ⟨le_rfl, fun h => absurd h (lt_irrefl a)⟩
    obtain ⟨b, m, e, hb, h⟩ := ih hl hne
    rw [stableSort, e, insertBefore]
    by_cases hab : s a < s b
    · rw [if_pos ((above_iff s b a).2 hab)]
      refine ⟨b, _, rfl, List.mem_cons_of_mem a hb, fun k hk => ?_⟩
      rcases List.mem_cons.1 hk with rfl | hk
      · exact ⟨hab.le, fun _ => hab.ne⟩
      · exact h k hk
    · rw [if_neg (fun h => hab ((above_iff s b a).1 h))]
      refine ⟨a, _, rfl, List.mem_cons_self, fun k hk => ?_⟩
      rcases List.mem_cons.1 hk with rfl | hk
      · exact ⟨le_rfl, fun h => absurd h (lt_irrefl _)⟩
      · exact ⟨(h k hk).1.trans (not_lt.1 hab), fun h => absurd (h.trans (ha k hk)) (lt_irrefl k)⟩

/-- The position that a sort by `above` puts first is the first of the greatest. -/
theorem sorted_first (s : Fin 1024 → EReal) : IsFirst s (sortedFrom (above s) 0) := by
  obtain ⟨b, m, e, -, h⟩ := stableSort_first s (List.finRange 1024) (List.pairwise_lt_finRange 1024) (by
    intro h
    have := congrArg List.length h
    simp at this)
  have : sortedFrom (above s) 0 = b := by
    unfold sortedFrom
    rw [List.get_eq_getElem]
    have hp : sortPositions 1024 (above s) = b :: m := e
    simp only [hp]
    rfl
  rw [this]
  exact ⟨fun k => (h k (List.mem_finRange k)).1, fun k => (h k (List.mem_finRange k)).2⟩

theorem negInf : Ideal.ofBits .f32 0xFF800000#32 = ⊥ := by
  simp [Ideal.ofBits, Ideal.ieee]

theorem toInt_minsi (a b : BitVec 32) : (IntOp.minsi a b).toInt = min a.toInt b.toInt := by
  unfold IntOp.minsi
  rw [min_def]
  by_cases h : a.toInt < b.toInt
  · simp [BitVec.slt_iff_toInt_lt, h, h.le]
  · by_cases h' : a.toInt ≤ b.toInt
    · simp [BitVec.slt_iff_toInt_lt, h, le_antisymm h' (not_lt.1 h)]
    · simp [BitVec.slt_iff_toInt_lt, h, h']

theorem toInt_lane (i : Fin 1024) : (BitVec.ofNat 32 i.val).toInt = i.val := by
  rw [BitVec.toInt_ofNat']; have := i.2
  simp [Int.bmod_def]; omega

/-- The choice as the kernel writes it: the greatest score, then the least index that has it. -/
theorem fold_first (s : Fin 1024 → EReal) : ∃ i : Fin 1024, IsFirst s i ∧
    Finset.univ.fold IntOp.minsi 2147483647#32 (fun x : Fin 1024 =>
      if s x = Finset.univ.fold max (Ideal.ofBits .f32 0xFF800000#32) (fun x => s x) then BitVec.ofNat 32 x.val
      else 1024#32) = BitVec.ofNat 32 i.val := by
  rw [negInf]
  set M := Finset.univ.fold max ⊥ (fun x => s x) with hM
  have hle : ∀ x, s x ≤ M := fun x => (Finset.le_fold_max _).2 (.inr ⟨x, Finset.mem_univ x, le_rfl⟩)
  have hex : ∃ x, s x = M := by
    rcases (Finset.le_fold_max M).1 (le_of_eq hM) with h | ⟨x, _, h⟩
    · exact ⟨0, le_antisymm (hle 0) (h.trans bot_le)⟩
    · exact ⟨x, le_antisymm (hle x) h⟩
  obtain ⟨i, hi, hmin⟩ : ∃ i, s i = M ∧ ∀ k, k < i → s k ≠ M := by
    classical
    let t := Finset.univ.filter fun x => s x = M
    have ht : t.Nonempty := by obtain ⟨x, hx⟩ := hex; exact ⟨x, by simp [t, hx]⟩
    refine ⟨t.min' ht, by have := t.min'_mem ht; simpa [t] using this, fun k hk e => ?_⟩
    exact absurd (t.min'_le k (by simp [t, e])) (not_le.2 hk)
  refine ⟨i, ⟨fun k => by rw [hi]; exact hle k, fun k hk => by rw [hi]; exact hmin k hk⟩, ?_⟩
  apply BitVec.eq_of_toInt_eq
  rw [← Finset.fold_hom (op' := min) (m := BitVec.toInt) fun a b => toInt_minsi a b, toInt_lane]
  apply le_antisymm
  · refine (Finset.fold_min_le _).2 (.inr ⟨i, Finset.mem_univ i, ?_⟩)
    rw [if_pos hi, toInt_lane]
  · refine (Finset.le_fold_min _).2 ⟨by
      have := i.2; rw [show (2147483647#32).toInt = 2147483647 from rfl]; omega, fun k _ => ?_⟩
    split_ifs with h
    · rw [toInt_lane]
      have : i ≤ k := not_lt.1 fun hk => hmin k hk h
      exact_mod_cast this
    · have := i.2; rw [show (1024#32).toInt = 1024 from rfl]; omega

/-! The numbers that the programs' literals are. -/

/-- The regularisation of the Gram matrix's diagonal. -/
def e1 : ℝ := 13743895 / 2 ^ 37
/-- The regularisation of each system's diagonal. -/
def e2 : ℝ := 8796093 / 2 ^ 43
/-- The least pivot that the kernel admits. -/
def fl : ℝ := 12379400 / 2 ^ 90

theorem lit_e1 : Ideal.ofBits .f32 0x38D1B717#32 = (e1 : EReal) := by
  simp [Ideal.ofBits, Ideal.ieee, e1, -EReal.coe_mul]; norm_num
theorem lit_e2 : Ideal.ofBits .f32 0x358637BD#32 = (e2 : EReal) := by
  simp [Ideal.ofBits, Ideal.ieee, e2, -EReal.coe_mul]; norm_num
theorem lit_fl : Ideal.ofBits .f32 0x1E3CE508#32 = (fl : EReal) := by
  simp [Ideal.ofBits, Ideal.ieee, fl, -EReal.coe_mul]; norm_num
theorem lit_neg : Ideal.ofBits .f32 0xBF800000#32 = ((-1 : ℝ) : EReal) := by
  simp [Ideal.ofBits, Ideal.ieee, -EReal.coe_mul]; norm_num

theorem e1_pos : 0 < e1 := by norm_num [e1]
theorem e2_pos : 0 < e2 := by norm_num [e2]
theorem e2_le : e2 ≤ 1 := by norm_num [e2]
theorem fl_le : fl ≤ e2 := by norm_num [e2, fl]

/-! Extended reals that are real numbers. -/

theorem coe_sum {α : Type} (t : Finset α) (f : α → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem sum_coe_mul {α : Type} (t : Finset α) (f g : α → ℝ) :
    ∑ i ∈ t, (f i : EReal) * (g i : EReal) = ((∑ i ∈ t, f i * g i : ℝ) : EReal) := by
  rw [coe_sum]; exact Finset.sum_congr rfl fun i _ => (EReal.coe_mul _ _).symm

theorem abs_coe (x : ℝ) : max (x : EReal) (-(x : EReal)) = ((|x| : ℝ) : EReal) := by
  rw [← EReal.coe_neg, abs_eq_max_neg]
  exact (EReal.coe_strictMono.monotone.map_max).symm

theorem div_real (a : ℝ) {b : ℝ} (h : b ≠ 0) : Ideal.div (a : EReal) (b : EReal) = ((a / b : ℝ) : EReal) := by
  rw [Ideal.div_coe h, ← EReal.coe_mul]; congr 1; ring

theorem lane_inj {i j : Fin 1024} : BitVec.ofNat 32 i.val = BitVec.ofNat 32 j.val ↔ i = j := by
  constructor
  · intro h
    have := congrArg BitVec.toInt h
    rw [toInt_lane, toInt_lane] at this
    exact Fin.ext (by exact_mod_cast this)
  · rintro rfl; rfl

/-! One patch. -/

/-- The Gram matrix with its diagonal regularised. -/
def gram (D : Fin 1024 → Fin 1024 → ℝ) (i j : Fin 1024) : ℝ := ∑ p, D p i * D p j + if i = j then e1 else 0

section row

variable (g : Fin 1024 → Fin 1024 → ℝ) (hb : Fin 1024 → ℝ) (ix : ℕ → Fin 1024) (c : ℕ → ℕ → ℝ)

/-- The system of the atoms chosen, with its diagonal regularised. -/
def An (i k : ℕ) : ℝ := g (ix i) (ix k) + if i = k then e2 else 0

/-- The right-hand side. -/
def bn (i : ℕ) : ℝ := hb (ix i)

/-- The correlations left when the first `t` atoms are chosen. -/
def res (t : ℕ) (j : Fin 1024) : ℝ := hb j - ∑ a ∈ range t, c t a * g (ix a) j

/-- The atom is among the first `t` chosen. -/
def Taken (t : ℕ) (j : Fin 1024) : Prop := ∃ a < t, ix a = j

open Classical in
/-- The scores of round `t`. -/
def score (t : ℕ) (j : Fin 1024) : EReal :=
  if Taken ix t j then ((-1 : ℝ) : EReal) else ((|res g hb ix c t j| : ℝ) : EReal)

/-- A run of the pursuit: each atom is the first of the greatest score, and the coefficients of the first `t` atoms
    solve their system. -/
structure Path : Prop where
  solves : ∀ t ≤ 8, ∀ i < t, ∑ k ∈ range t, An g ix i k * c t k = bn hb ix i
  pick : ∀ t < 8, IsFirst (score g hb ix c t) (ix t)

end row

theorem gram_symm (D : Fin 1024 → Fin 1024 → ℝ) (i j : Fin 1024) : gram D i j = gram D j i := by
  unfold gram
  rw [Finset.sum_congr rfl fun p _ => mul_comm (D p i) (D p j)]
  simp only [eq_comm (a := i) (b := j)]

theorem An_symm {g : Fin 1024 → Fin 1024 → ℝ} (hg : ∀ i j, g i j = g j i) (ix : ℕ → Fin 1024) (i k : ℕ) :
    An g ix i k = An g ix k i := by
  unfold An
  rw [hg]
  simp only [eq_comm (a := i) (b := k)]

/-- The system's quadratic form is at least the regularisation times the sum of squares. -/
theorem An_pos (D : Fin 1024 → Fin 1024 → ℝ) (ix : ℕ → Fin 1024) (m : ℕ) : Math.Pos (An (gram D) ix) e2 m := by
  intro v
  have h1 : ∑ i ∈ range m, ∑ k ∈ range m, v i * v k * An (gram D) ix i k
      = ∑ p, (∑ i ∈ range m, v i * D p (ix i)) ^ 2
        + e1 * ∑ j, (∑ i ∈ range m, v i * if ix i = j then 1 else 0) ^ 2 + e2 * ∑ i ∈ range m, v i ^ 2 := by
    have a1 : ∑ p, (∑ i ∈ range m, v i * D p (ix i)) ^ 2
        = ∑ i ∈ range m, ∑ k ∈ range m, v i * v k * ∑ p, D p (ix i) * D p (ix k) := by
      simp only [sq, Finset.sum_mul_sum]
      rw [Finset.sum_comm]
      refine Finset.sum_congr rfl fun i _ => ?_
      rw [Finset.sum_comm]
      refine Finset.sum_congr rfl fun k _ => ?_
      rw [Finset.mul_sum]
      exact Finset.sum_congr rfl fun p _ => by ring
    have a2 : ∑ j, (∑ i ∈ range m, v i * if ix i = j then 1 else 0) ^ 2
        = ∑ i ∈ range m, ∑ k ∈ range m, v i * v k * if ix i = ix k then (1 : ℝ) else 0 := by
      simp only [sq, Finset.sum_mul_sum]
      rw [Finset.sum_comm]
      refine Finset.sum_congr rfl fun i _ => ?_
      rw [Finset.sum_comm]
      refine Finset.sum_congr rfl fun k _ => ?_
      rw [Finset.sum_eq_single (ix i) (fun j _ hj => by rw [if_neg (Ne.symm hj)]; ring) (by simp)]
      by_cases h : ix i = ix k
      · simp [h]
      · simp [h, Ne.symm h]
    have a3 : ∑ i ∈ range m, v i ^ 2 = ∑ i ∈ range m, ∑ k ∈ range m, v i * v k * if i = k then (1 : ℝ) else 0 := by
      refine Finset.sum_congr rfl fun i hi => ?_
      rw [Finset.sum_eq_single i (fun k _ hk => by rw [if_neg (Ne.symm hk)]; ring) (fun h => absurd hi h)]
      simp [sq]
    rw [a1, a2, a3, Finset.mul_sum, Finset.mul_sum, ← Finset.sum_add_distrib, ← Finset.sum_add_distrib]
    refine Finset.sum_congr rfl fun i _ => ?_
    rw [Finset.mul_sum, Finset.mul_sum, ← Finset.sum_add_distrib, ← Finset.sum_add_distrib]
    refine Finset.sum_congr rfl fun k _ => ?_
    unfold An gram
    split_ifs <;> ring
  rw [h1]
  have p1 : 0 ≤ ∑ p, (∑ i ∈ range m, v i * D p (ix i)) ^ 2 := Finset.sum_nonneg fun _ _ => sq_nonneg _
  have p2 : 0 ≤ e1 * ∑ j, (∑ i ∈ range m, v i * if ix i = j then (1 : ℝ) else 0) ^ 2 :=
    mul_nonneg e1_pos.le (Finset.sum_nonneg fun _ _ => sq_nonneg _)
  linarith

/-- Every pivot of the system is at least the regularisation. -/
theorem An_pivot (D : Fin 1024 → Fin 1024 → ℝ) (ix : ℕ → Fin 1024) (n : ℕ) : e2 ≤ Math.T (An (gram D) ix) n n n :=
  Math.pivot_le (An_symm (gram_symm D) ix) e2_pos (An_pos D ix (n + 1)) n (by omega)

end Cert.Omp

end
-- ==== Proof.Read.lean ====
/- The model's operations read at a row and an atom, over the extended reals. -/
module

public import proofs.«01_k».proof.Proof.Model
public import proofs.«01_k».proof.Proof.Spec

@[expose] public section

noncomputable section

namespace Cert.Omp

open Idealize.ShloMosaic Cert.KernelIdeal Cert.KernelIdeal.Gen

theorem rowSum_at (v : Rows Ideal) (r : Fin 256) : rowSum v (ix2 r 0) = ∑ j : Fin 1024, v (ix2 r j) := by
  pointwise [rowSum]

theorem wide_at (v : Col Ideal) (r : Fin 256) (j : Fin 1024) : wide v (ix2 r j) = v (ix2 r 0) := by
  pointwise [wide]

theorem times_at (v : Rows Ideal) (g : FVec Ideal S1024x1024 .f32) (r : Fin 256) (j : Fin 1024) :
    times v g (ix2 r j) = ∑ k : Fin 1024, v (ix2 r k) * g (ix2 k j) := by
  pointwise [times]

theorem times16_at (v : FVec Ideal S256x1024 .bf16) (g : FVec Ideal S1024x1024 .bf16) (r : Fin 256) (j : Fin 1024) :
    times16 v g (ix2 r j) = ∑ k : Fin 1024, v (ix2 r k) * g (ix2 k j) := by
  pointwise [times16]

theorem hitB_at (idx : ℕ → IVec S256x1 32) (a : ℕ) (r : Fin 256) (j : Fin 1024) :
    hitB idx a (ix2 r j) = IntOp.cmpi .eq (BitVec.ofNat 32 j) (idx a (ix2 r 0)) := by
  pointwise [hitB, lanes]

theorem first_at (s : Rows Ideal) (r : Fin 256) : first s (ix2 r 0)
    = Finset.univ.fold IntOp.minsi 2147483647#32 (fun x : Fin 1024 =>
      if s (ix2 r x) = Finset.univ.fold max (Ideal.ofBits .f32 0xFF800000#32) (fun x => s (ix2 r x))
      then BitVec.ofNat 32 x.val else 1024#32) := by
  pointwise [first, wide, lanes]

theorem out_at (I : Inp Ideal) (idx : ℕ → IVec S256x1 32) (r : Fin 256) (j : Fin 1024) :
    out I idx (ix2 r j) = ∑ k : Fin 1024, W I idx 8 7 (ix2 r k) * I.d (ix2 j k) := by
  pointwise [out]

theorem root_at (v : Col Ideal) (r : Fin 256) :
    root v (ix2 r 0) = Ideal.div 1 (Ideal.sqrt (max (v (ix2 r 0)) (Ideal.ofBits .f32 0x1E3CE508#32))) := by
  pointwise [root]

/-- A pivot that is at least the regularisation is inverted as it is. -/
theorem root_real (v : Col Ideal) (r : Fin 256) {d : ℝ} (hd : e2 ≤ d) (h : v (ix2 r 0) = (d : EReal)) :
    root v (ix2 r 0) = ((1 / Real.sqrt d : ℝ) : EReal) := by
  have h0 : 0 < d := e2_pos.trans_le hd
  rw [root_at, h, lit_fl, max_eq_left (EReal.coe_le_coe_iff.2 (fl_le.trans hd)), Ideal.sqrt_coe, if_neg (not_lt.2 h0.le)]
  exact div_real 1 (Real.sqrt_pos.2 h0).ne'

/-! The body on one row. -/

section row

variable (I : Inp Ideal) (idx : ℕ → IVec S256x1 32) (r : Fin 256)
  (x : Fin 1024 → ℝ) (D : Fin 1024 → Fin 1024 → ℝ) (ix : ℕ → Fin 1024)

/-- What the windows hold, as real numbers, and the atoms chosen on the row. -/
structure Reads : Prop where
  x : ∀ k, I.x (ix2 r k) = (x k : EReal)
  d : ∀ i j, I.d (ix2 i j) = (D i j : EReal)
  g : ∀ i j, I.g (ix2 i j) = (gram D i j : EReal)
  gh : ∀ i j, I.gh (ix2 i j) = (gram D i j : EReal)
  gm : ∀ i j, I.gm (ix2 i j) = 0
  gl : ∀ i j, I.gl (ix2 i j) = 0
  ix : ∀ a, idx a (ix2 r 0) = BitVec.ofNat 32 (ix a).val

/-- The correlations of the patch with the atoms. -/
def corr (j : Fin 1024) : ℝ := ∑ k, x k * D k j

variable {I idx r x D ix} (h : Reads I idx r x D ix)
include h

theorem Reads.hbar (j : Fin 1024) : hbar I (ix2 r j) = (corr x D j : EReal) := by
  rw [Omp.hbar, times_at]
  simp only [h.x, h.d]
  exact sum_coe_mul _ _ _

theorem Reads.hitB (a : ℕ) (j : Fin 1024) : hitB idx a (ix2 r j) = if j = ix a then 1#1 else 0#1 := by
  rw [hitB_at, h.ix]
  by_cases e : j = ix a
  · rw [if_pos e, e]; simp [IntOp.cmpi]
  · have : (BitVec.ofNat 32 j.val == BitVec.ofNat 32 (ix a).val) = false := beq_false_of_ne (lane_inj.not.2 e)
    rw [if_neg e]; simp only [IntOp.cmpi, this]; rfl

theorem Reads.hit (a : ℕ) (j : Fin 1024) :
    (hit idx a : Rows Ideal) (ix2 r j) = ((if j = ix a then 1 else 0 : ℝ) : EReal) := by
  have : (Omp.hit idx a : Rows Ideal) (ix2 r j) = (((BitVec.setWidth 32 (Omp.hitB idx a (ix2 r j))).toInt : ℝ) : EReal) :=
    rfl
  rw [this, h.hitB]
  split_ifs <;> simp

/-- A sum against the indicator of the chosen atom. -/
theorem sum_hit (f : Fin 1024 → ℝ) (i : Fin 1024) : ∑ j, f j * (if j = i then 1 else 0) = f i := by
  simp

theorem Reads.grow (a : ℕ) (j : Fin 1024) : grow I idx a (ix2 r j) = (gram D (ix a) j : EReal) := by
  have e : ∀ g : FVec Ideal S1024x1024 .bf16, times16 (truncf .bf16 (Omp.hit idx a : Rows Ideal) bitsLt_bf16_f32) g (ix2 r j)
      = ∑ k : Fin 1024, (Omp.hit idx a : Rows Ideal) (ix2 r k) * g (ix2 k j) := fun g => times16_at _ _ _ _
  show _ + _ + _ = _
  rw [e, e, e]
  simp only [h.hit, h.gh, h.gm, h.gl, mul_zero, Finset.sum_const_zero, add_zero]
  rw [sum_coe_mul]
  simp

theorem Reads.rowSum_hit (v : Rows Ideal) (f : Fin 1024 → ℝ) (hv : ∀ j, v (ix2 r j) = (f j : EReal)) (a : ℕ) :
    rowSum (mulf v (Omp.hit idx a)) (ix2 r 0) = (f (ix a) : EReal) := by
  rw [rowSum_at]
  have : ∀ j, mulf v (Omp.hit idx a) (ix2 r j) = (f j : EReal) * ((if j = ix a then 1 else 0 : ℝ) : EReal) := fun j => by
    rw [← hv, ← h.hit]; rfl
  simp only [this]
  rw [sum_coe_mul]; simp

/-- The table after `n` eliminations, off the diagonal and on it. -/
theorem Reads.tab (n : ℕ) :
    (∀ i k, n ≤ i → n ≤ k → i ≠ k → S I idx n i k (ix2 r 0) = (Math.T (An (gram D) ix) n i k : EReal)) ∧
    ∀ i, n ≤ i → Pv I idx n i (ix2 r 0) = (Math.T (An (gram D) ix) n i i : EReal) := by
  have s0 : ∀ i k, rowSum (mulf (Omp.grow I idx i) (Omp.hit idx k)) (ix2 r 0) = (gram D (ix i) (ix k) : EReal) :=
    fun i k => h.rowSum_hit _ _ (h.grow i) k
  induction n with
  | zero =>
    refine ⟨fun i k _ _ hik => ?_, fun i _ => ?_⟩
    · refine (s0 i k).trans ?_
      simp only [Math.T, An]
      rw [if_neg hik, add_zero]
    · have : Pv I idx 0 i (ix2 r 0) = rowSum (mulf (Omp.grow I idx i) (Omp.hit idx i)) (ix2 r 0)
          + Ideal.ofBits .f32 0x358637BD#32 := rfl
      rw [this, s0, lit_e2, ← EReal.coe_add]
      simp only [Math.T, An, if_true]
  | succ n ih =>
    have hp := An_pivot D ix n
    have hr : R I idx n (ix2 r 0) = (Math.rt (An (gram D) ix) n : EReal) := root_real _ _ hp (ih.2 n le_rfl)
    have hl : ∀ i, n < i → L I idx n i (ix2 r 0) = (Math.Lr (An (gram D) ix) n i : EReal) := fun i hi => by
      have : L I idx n i (ix2 r 0) = S I idx n i n (ix2 r 0) * R I idx n (ix2 r 0) := rfl
      rw [this, hr, ih.1 i n hi.le le_rfl hi.ne', ← EReal.coe_mul]; rfl
    refine ⟨fun i k hi hk hik => ?_, fun i hi => ?_⟩
    · have : S I idx (n + 1) i k (ix2 r 0) = S I idx n i k (ix2 r 0) - L I idx n i (ix2 r 0) * L I idx n k (ix2 r 0) :=
        rfl
      rw [this, hl i hi, hl k hk, ih.1 i k (by omega) (by omega) hik, ← EReal.coe_mul, ← EReal.coe_sub,
        Math.T_succ (e2_pos.trans_le hp)]
    · have : Pv I idx (n + 1) i (ix2 r 0) = Pv I idx n i (ix2 r 0) - L I idx n i (ix2 r 0) * L I idx n i (ix2 r 0) :=
        rfl
      rw [this, hl i hi, ih.2 i (by omega), ← EReal.coe_mul, ← EReal.coe_sub, Math.T_succ (e2_pos.trans_le hp)]

theorem Reads.R (n : ℕ) : R I idx n (ix2 r 0) = (Math.rt (An (gram D) ix) n : EReal) :=
  root_real _ _ (An_pivot D ix n) ((h.tab n).2 n le_rfl)

theorem Reads.L (n i : ℕ) (hi : n < i) : L I idx n i (ix2 r 0) = (Math.Lr (An (gram D) ix) n i : EReal) := by
  have : Omp.L I idx n i (ix2 r 0) = S I idx n i n (ix2 r 0) * Omp.R I idx n (ix2 r 0) := rfl
  rw [this, h.R, (h.tab n).1 i n hi.le le_rfl hi.ne', ← EReal.coe_mul]; rfl

/-- The forward substitution. -/
theorem Reads.Y (n i : ℕ) (hi : n ≤ i) :
    Y I idx n i (ix2 r 0) = (Math.Yr (An (gram D) ix) (bn (corr x D) ix) n i : EReal) := by
  induction n generalizing i with
  | zero => exact h.rowSum_hit _ _ h.hbar i
  | succ n ih =>
    have : Omp.Y I idx (n + 1) i (ix2 r 0)
        = Omp.Y I idx n i (ix2 r 0) - Omp.L I idx n i (ix2 r 0) * (Omp.Y I idx n n (ix2 r 0) * Omp.R I idx n (ix2 r 0)) :=
      rfl
    rw [this, ih i (by omega), ih n le_rfl, h.L n i hi, h.R, ← EReal.coe_mul, ← EReal.coe_mul, ← EReal.coe_sub]; rfl

theorem Reads.y (n : ℕ) : y I idx n (ix2 r 0) = (Math.yr (An (gram D) ix) (bn (corr x D) ix) n : EReal) := by
  have : Omp.y I idx n (ix2 r 0) = Omp.Y I idx n n (ix2 r 0) * Omp.R I idx n (ix2 r 0) := rfl
  rw [this, h.Y n n le_rfl, h.R, ← EReal.coe_mul]; rfl

/-- One row of the backward substitution, given that the later unknowns are real. -/
theorem Reads.B (m i n : ℕ) (u : ℕ → ℝ)
    (hu : ∀ k, i < k → k ≤ i + n → X I idx m k (ix2 r 0) = (u k : EReal)) :
    B I idx m i n (ix2 r 0) = ((Math.yr (An (gram D) ix) (bn (corr x D) ix) i
      - ∑ k ∈ Finset.Ico (i + 1) (i + 1 + n), Math.Lr (An (gram D) ix) i k * u k : ℝ) : EReal) := by
  induction n with
  | zero =>
    rw [Nat.add_zero, Finset.Ico_self, Finset.sum_empty, sub_zero]
    exact h.y i
  | succ n ih =>
    have : Omp.B I idx m i (n + 1) (ix2 r 0)
        = Omp.B I idx m i n (ix2 r 0) - Omp.L I idx i (i + 1 + n) (ix2 r 0) * X I idx m (i + 1 + n) (ix2 r 0) := rfl
    rw [this, ih fun k h1 h2 => hu k h1 (by omega), h.L i _ (by omega), hu _ (by omega) (by omega), ← EReal.coe_mul,
      ← EReal.coe_sub, ← Nat.add_assoc, Finset.sum_Ico_succ_top (by omega)]
    congr 1; ring

omit h in
/-- The coefficients as real numbers. -/
def coef (I : Inp Ideal) (idx : ℕ → IVec S256x1 32) (r : Fin 256) (m a : ℕ) : ℝ := (X I idx m a (ix2 r 0)).toReal

theorem Reads.X_at (m n i : ℕ) (hm : i + n + 1 = m) : X I idx m i (ix2 r 0) = (coef I idx r m i : EReal) ∧
    coef I idx r m i = (Math.yr (An (gram D) ix) (bn (corr x D) ix) i
      - ∑ k ∈ Finset.Ico (i + 1) m, Math.Lr (An (gram D) ix) i k * coef I idx r m k) * Math.rt (An (gram D) ix) i := by
  induction n using Nat.strong_induction_on generalizing i with
  | _ n ih =>
    have e : X I idx m i (ix2 r 0) = ((((Math.yr (An (gram D) ix) (bn (corr x D) ix) i
        - ∑ k ∈ Finset.Ico (i + 1) m, Math.Lr (An (gram D) ix) i k * coef I idx r m k)
          * Math.rt (An (gram D) ix) i : ℝ)) : EReal) := by
      rw [← X_eq I idx m i n hm]
      have : mulf (Omp.B I idx m i n) (Omp.R I idx i) (ix2 r 0)
          = Omp.B I idx m i n (ix2 r 0) * Omp.R I idx i (ix2 r 0) := rfl
      rw [this, h.R, h.B m i n (coef I idx r m) fun k h1 h2 => (ih (m - 1 - k) (by omega) k (by omega)).1,
        ← EReal.coe_mul, show i + 1 + n = m by omega]
    have e2 : coef I idx r m i = _ := congrArg EReal.toReal e
    rw [EReal.toReal_coe] at e2
    exact ⟨by rw [e, e2], e2⟩

theorem Reads.X (m i : ℕ) (hi : i < m) : X I idx m i (ix2 r 0) = (coef I idx r m i : EReal) :=
  (h.X_at m (m - 1 - i) i (by omega)).1

/-- The coefficients solve the system of the atoms chosen. -/
theorem Reads.solves (m : ℕ) : ∀ i < m, ∑ k ∈ Finset.range m, An (gram D) ix i k * coef I idx r m k = bn (corr x D) ix i :=
  Math.chol_solves (An_symm (gram_symm D) ix) (fun p _ => e2_pos.trans_le (An_pivot D ix p)) _
    fun i hi => (h.X_at m (m - 1 - i) i (by omega)).2

/-- The weights of the atoms. -/
theorem Reads.W (m n : ℕ) (hn : n < m) (j : Fin 1024) : W I idx m n (ix2 r j)
    = ((∑ a ∈ Finset.range (n + 1), coef I idx r m a * (if j = ix a then 1 else 0) : ℝ) : EReal) := by
  have s : ∀ a < m, share I idx m a (ix2 r j) = ((coef I idx r m a * (if j = ix a then 1 else 0) : ℝ) : EReal) :=
    fun a ha => by
      have : share I idx m a (ix2 r j) = wide (Omp.X I idx m a) (ix2 r j) * (Omp.hit idx a : Rows Ideal) (ix2 r j) := rfl
      rw [this, wide_at, h.X m a ha, h.hit, ← EReal.coe_mul]
  induction n with
  | zero =>
    rw [Finset.sum_range_one]
    exact s 0 hn
  | succ n ih =>
    have : Omp.W I idx m (n + 1) (ix2 r j) = Omp.W I idx m n (ix2 r j) + share I idx m (n + 1) (ix2 r j) := rfl
    rw [this, ih (by omega), s _ hn, ← EReal.coe_add, ← Finset.sum_range_succ]

omit h in
/-- A weighted sum over the atoms is a sum over those chosen. -/
theorem sum_weights (c : ℕ → ℝ) (ix : ℕ → Fin 1024) (m : ℕ) (f : Fin 1024 → ℝ) :
    ∑ k, (∑ a ∈ Finset.range m, c a * (if k = ix a then 1 else 0)) * f k = ∑ a ∈ Finset.range m, c a * f (ix a) := by
  simp only [Finset.sum_mul]
  rw [Finset.sum_comm]
  refine Finset.sum_congr rfl fun a _ => ?_
  simp

/-- The correlations left. -/
theorem Reads.H (t : ℕ) (j : Fin 1024) :
    H I idx t (ix2 r j) = (res (gram D) (corr x D) ix (coef I idx r) t j : EReal) := by
  cases t with
  | zero =>
    rw [res, Finset.sum_range_zero, sub_zero]
    exact h.hbar j
  | succ m =>
    have : Omp.H I idx (m + 1) (ix2 r j) = Omp.hbar I (ix2 r j) - times (Omp.W I idx (m + 1) m) I.g (ix2 r j) := rfl
    rw [this, h.hbar, times_at]
    simp only [h.W (m + 1) m (by omega), h.g]
    rw [sum_coe_mul, sum_weights, ← EReal.coe_sub]; rfl

theorem Reads.Mk (t : ℕ) (j : Fin 1024) : Mk idx t (ix2 r j) = 1#1 ↔ Taken ix t j := by
  induction t with
  | zero => exact ⟨fun e => absurd e (by show ¬ (0#1 = 1#1); decide), fun ⟨a, ha, _⟩ => by omega⟩
  | succ t ih =>
    have : Omp.Mk idx (t + 1) (ix2 r j) = Omp.Mk idx t (ix2 r j) ||| Omp.hitB idx t (ix2 r j) := rfl
    rw [this, h.hitB]
    have hT : Taken ix (t + 1) j ↔ Taken ix t j ∨ j = ix t := by
      constructor
      · rintro ⟨a, ha, e⟩
        rcases Nat.lt_succ_iff_lt_or_eq.1 ha with h | rfl
        · exact .inl ⟨a, h, e⟩
        · exact .inr e.symm
      · rintro (⟨a, ha, e⟩ | e)
        · exact ⟨a, by omega, e⟩
        · exact ⟨t, by omega, e.symm⟩
    rw [hT, ← ih]
    generalize Omp.Mk idx t (ix2 r j) = b
    by_cases e : j = ix t
    · rw [if_pos e]; rcases BitVec.eq_zero_or_eq_one b with rfl | rfl <;> simp [e]
    · rw [if_neg e]; rcases BitVec.eq_zero_or_eq_one b with rfl | rfl <;> simp [e]

theorem Reads.sc (t : ℕ) (j : Fin 1024) :
    sc I idx t (ix2 r j) = score (gram D) (corr x D) ix (coef I idx r) t j := by
  have : Omp.sc I idx t (ix2 r j) = Scalar.select (Omp.Mk idx t (ix2 r j)) (Ideal.ofBits .f32 0xBF800000#32)
      (max (Omp.H I idx t (ix2 r j)) (-(Omp.H I idx t (ix2 r j)))) := rfl
  rw [this, h.H, abs_coe, lit_neg]
  unfold score Scalar.select
  by_cases e : Taken ix t j
  · rw [if_pos e, if_pos (show _ = (1 : BitVec 1) from (h.Mk t j).2 e)]
  · rw [if_neg e, if_neg (show ¬ _ = (1 : BitVec 1) from fun e' => e ((h.Mk t j).1 e'))]

/-- The body's rows are runs of the pursuit. -/
theorem Reads.path (hf : ∀ t, t < 8 → first (Omp.sc I idx t) = idx t) :
    Path (gram D) (corr x D) ix (coef I idx r) where
  solves t _ := h.solves t
  pick t ht := by
    obtain ⟨i, hi, e⟩ := fold_first fun j => Omp.sc I idx t (ix2 r j)
    rw [← first_at, hf t ht, h.ix, lane_inj] at e
    rw [e]
    have : (fun j => Omp.sc I idx t (ix2 r j)) = score (gram D) (corr x D) ix (coef I idx r) t := funext (h.sc t)
    rwa [this] at hi

/-- The body's result. -/
theorem Reads.out (j : Fin 1024) :
    out I idx (ix2 r j) = ((∑ a ∈ Finset.range 8, coef I idx r 8 a * D j (ix a) : ℝ) : EReal) := by
  rw [out_at]
  simp only [h.W 8 7 (by omega), h.d]
  rw [sum_coe_mul, sum_weights]

end row

end Cert.Omp

end
-- ==== Proof.Body.lean ====
/- The body's stores, as the printed payloads name them, are the model's `out`: one equation for each KIND of step of the
   body, and the payloads' text folded by them from the loads outward, whatever the sequence of choices is, provided
   each of the eight is the first atom of the greatest score. -/
module

public import proofs.«01_k».proof.Proof.Model
public import Idealize.ShloMosaic.Lib.Pipeline.Value
public import Idealize.ShloMosaic.Lib.Tactic
public import proofs.«01_k».proof.Proof.Gen.KernelIdeal.Frame

@[expose] public section

noncomputable section

namespace Cert.Omp

open Idealize.ShloMosaic Idealize.ShloMosaic.TcCoe Idealize.SL.Sem Cert.KernelIdeal Cert.KernelIdeal.Gen

variable {F : FTy → Type} [FloatOps F]

section fold

variable (I : Inp F) (idx : ℕ → IVec S256x1 32)

theorem f_lanes : iota .tc S256x1024 32 [1] iota_S256x1024_d1_w32 = lanes := rfl
theorem f_hitB (a : ℕ) :
    cmpi .eq lanes (broadcastTo S256x1024 (idx a) broadcasts_S256x1_S256x1024) = hitB idx a := rfl
theorem f_hit (a : ℕ) : (sitofp .f32 (extui 32 (hitB idx a) natLt_1_32) : Rows F) = hit idx a := rfl
theorem f_sum (v : Rows F) : shapeCast S256x1 (multiReduction .add [1] S256 v 0x00000000#32 reduces_S256x1024_S256
    (.inl rfl) rfl) shapeCasts_S256_S256x1 = rowSum v := rfl
theorem f_wide (v : Col F) : broadcastTo S256x1024 v broadcasts_S256x1_S256x1024 = wide v := rfl
theorem f_times (v : Rows F) (g : FVec F S1024x1024 .f32) :
    matmul dot_S256x1024_S1024x1024_S256x1024_1_0_0_1_n_n none v g (constant S256x1024 .f32 0x00000000#32)
      = times v g := rfl
theorem f_times16 (v : FVec F S256x1024 .bf16) (g : FVec F S1024x1024 .bf16) :
    matmul dot_S256x1024_S1024x1024_S256x1024_1_0_0_1_n_n none v g (constant S256x1024 .f32 0x00000000#32)
      = times16 v g := rfl
theorem f_hbar : times I.x I.d = hbar I := rfl
theorem f_grow (a : ℕ) : addf (addf (times16 (truncf .bf16 (hit idx a) bitsLt_bf16_f32) I.gh)
    (times16 (truncf .bf16 (hit idx a) bitsLt_bf16_f32) I.gm))
    (times16 (truncf .bf16 (hit idx a) bitsLt_bf16_f32) I.gl) = grow I idx a := rfl
theorem f_S0 (i k : ℕ) : rowSum (mulf (grow I idx i) (hit idx k)) = S I idx 0 i k := rfl
theorem f_S (n i k : ℕ) : subf (S I idx n i k) (mulf (L I idx n i) (L I idx n k)) = S I idx (n + 1) i k := rfl
theorem f_P0 (i : ℕ) : addf (S I idx 0 i i) (broadcast S256x1 (FloatOps.ofBits .f32 0x358637BD#32)) = Pv I idx 0 i :=
  rfl
theorem f_P (n i : ℕ) : subf (Pv I idx n i) (mulf (L I idx n i) (L I idx n i)) = Pv I idx (n + 1) i := rfl
theorem f_root (v : Col F) : divf (broadcast S256x1 (FloatOps.ofBits .f32 0x3F800000#32))
    (sqrt (maximumf v (broadcast S256x1 (FloatOps.ofBits .f32 0x1E3CE508#32)))) = root v := rfl
theorem f_R (n : ℕ) : root (Pv I idx n n) = R I idx n := rfl
theorem f_L (n i : ℕ) : mulf (S I idx n i n) (R I idx n) = L I idx n i := rfl
theorem f_Y0 (i : ℕ) : rowSum (mulf (hbar I) (hit idx i)) = Y I idx 0 i := rfl
theorem f_Y (n i : ℕ) : subf (Y I idx n i) (mulf (L I idx n i) (y I idx n)) = Y I idx (n + 1) i := rfl
theorem f_y (n : ℕ) : mulf (Y I idx n n) (R I idx n) = y I idx n := rfl
theorem f_X0 (i : ℕ) : mulf (y I idx i) (R I idx i) = X I idx (i + 1) i := X_eq I idx (i + 1) i 0 rfl
theorem f_B0 (m i k : ℕ) (h : k = i + 1) : subf (y I idx i) (mulf (L I idx i k) (X I idx m k)) = B I idx m i 1 := by
  subst h; rfl
theorem f_B (m i n k : ℕ) (h : k = i + 1 + n) :
    subf (B I idx m i n) (mulf (L I idx i k) (X I idx m k)) = B I idx m i (n + 1) := by subst h; rfl
theorem f_share (m a : ℕ) : mulf (wide (X I idx m a)) (hit idx a) = share I idx m a := rfl
theorem f_W0 (m : ℕ) : addf (share I idx m 0) (share I idx m 1) = W I idx m 1 := rfl
theorem f_W (m n k : ℕ) (h : k = n + 1) : addf (W I idx m n) (share I idx m k) = W I idx m (n + 1) := by subst h; rfl
theorem f_beta0 : times (share I idx 1 0) I.g = beta I idx 1 := rfl
theorem f_beta (m n : ℕ) (h : m = n + 1) : times (W I idx m n) I.g = beta I idx m := by subst h; rfl
theorem f_H (m : ℕ) : subf (hbar I) (beta I idx (m + 1)) = H I idx (m + 1) := rfl
theorem f_M0 : ori (broadcast S256x1024 0#1) (hitB idx 0) = Mk idx 1 := rfl
theorem f_M (n k : ℕ) : ori (Mk idx n) (hitB idx n) = Mk idx (n + 1) := rfl
theorem f_sc0 : select (broadcast S256x1024 0#1) (broadcast S256x1024 (FloatOps.ofBits .f32 0xBF800000#32))
    (absf (hbar I)) = sc I idx 0 := rfl
theorem f_sc (t : ℕ) : select (Mk idx t) (broadcast S256x1024 (FloatOps.ofBits .f32 0xBF800000#32))
    (absf (H I idx t)) = sc I idx t := rfl
theorem f_first (s : Rows F) : shapeCast S256x1 (multiReductionI .minsi [1] S256
    (select (cmpf .oeq s (wide (shapeCast S256x1 (multiReduction .maximumf [1] S256 s 0xFF800000#32
      reduces_S256x1024_S256 (.inl rfl) rfl) shapeCasts_S256_S256x1))) lanes (broadcast S256x1024 1024#32))
    2147483647#32 reduces_S256x1024_S256 rfl) shapeCasts_S256_S256x1 = first s := rfl
theorem f_out : matmul dot_S256x1024_S1024x1024_S256x1024_1_1_0_0_n_n none (W I idx 8 7) I.d
    (constant S256x1024 .f32 0x00000000#32) = out I idx := rfl

end fold

theorem hz : (![0, 0] : Fin 2 → Nat) = fun _ => 0 := by funext a; fin_cases a <;> rfl

set_option maxRecDepth 10000 in
/-- What the body leaves in its output's buffer is the model's `out` of what its windows hold. -/
theorem out_eq (I : Inp F) (idx : ℕ → IVec S256x1 32) (hidx : ∀ t, t < 8 → first (sc I idx t) = idx t)
    (c : Dev nD) (i : grid1.Coords) (arg1 : Memref sig .tc .vmem S256x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S256x1024 .f32) (harg7 : arg7.IsWhole)
    (arg8 : Memref sig .tc .vmem S8x128 .f32) (harg8 : arg8.IsWhole) :
    out1_A_6 c i arg1 harg1 arg2 harg2 arg3 harg3 arg4 harg4 arg5 harg5 arg6 harg6 arg7 harg7 arg8 harg8
      I.x I.d I.g I.gh I.gm I.gl = out I idx := by
  unfold out1_A_6
  rw [View.read_writes_eq_canon _ _ _ (cover1_A_6 c _ _ _ _ _ _ _ _ _ _ _ _ _ _ _ _ _ _ _ _ _ _ _)]
  unfold kernelRun1_A
  dsimp only
  sl_unfold_words
  refine (View.canon_cons_unit_zero (Val := Elt F) (S := S256x1024) hz inb_S256x1024_S256x1024_0_0 _ _).trans ?_
  simp (proj := false) only [-Fin.isValue, Nat.reduceAdd, Nat.reduceLT, View.readAt_eq_ld, harg1.read_unread, harg2.read_unread, harg3.read_unread, harg4.read_unread,
    harg5.read_unread, harg6.read_unread, View.ld_unit_zero (S := S256x1024) hz, View.ld_unit_zero (S := S1024x1024) hz,
    shapeCast_self, f_lanes, f_hitB, f_hit, f_sum, f_wide, f_times, f_times16, f_hbar, f_grow, f_S0, f_S, f_P0, f_P,
    f_root, f_R, f_L, f_Y0, f_Y, f_y, f_X0, f_B0, f_B, X_eq, f_share, f_W0, f_W, f_beta0, f_beta, f_H, f_M0, f_M,
    f_sc0 I idx, f_sc, f_first, f_out, hidx,
    k1_pay1, k1_pay2, k1_pay3, k1_pay4, k1_pay5, k1_pay6, k1_pay7, k1_pay8, k1_pay9, k1_pay10, k1_pay11, k1_pay12,
    k1_pay13, k1_pay14, k1_pay15, k1_pay16, k1_pay17, k1_pay18, k1_pay19, k1_pay20, k1_pay21, k1_pay22, k1_pay23,
    k1_pay24, k1_pay25, k1_pay26, k1_pay27, k1_pay28, k1_pay29, k1_pay30, k1_pay31, k1_pay32, k1_pay33, k1_pay34,
    k1_pay35, k1_pay36, k1_pay37, k1_pay38, k1_pay39, k1_pay40, k1_pay41, k1_pay42, k1_pay43, k1_pay44, k1_pay45,
    k1_pay46, k1_pay47, k1_pay48, k1_pay49, k1_pay50, k1_pay51, k1_pay52, k1_pay53, k1_pay54, k1_pay55, k1_pay56,
    k1_pay57, k1_pay58, k1_pay59, k1_pay60, k1_pay61, k1_pay62, k1_pay63, k1_pay64, k1_pay65, k1_pay66, k1_pay67,
    k1_pay68, k1_pay69, k1_pay70, k1_pay71, k1_pay72, k1_pay73, k1_pay74, k1_pay75, k1_pay76, k1_pay77, k1_pay78,
    k1_pay79, k1_pay80, k1_pay81, k1_pay82, k1_pay83, k1_pay84, k1_pay85, k1_pay86, k1_pay87, k1_pay88, k1_pay89,
    k1_pay90, k1_pay91, k1_pay92, k1_pay93, k1_pay94, k1_pay95, k1_pay96, k1_pay97, k1_pay98, k1_pay99, k1_pay100,
    k1_pay101, k1_pay102, k1_pay103, k1_pay104, k1_pay105, k1_pay106, k1_pay107, k1_pay108, k1_pay109, k1_pay110,
    k1_pay111, k1_pay112, k1_pay113, k1_pay114, k1_pay115, k1_pay116, k1_pay117, k1_pay118, k1_pay119, k1_pay120,
    k1_pay121, k1_pay122, k1_pay123, k1_pay124, k1_pay125, k1_pay126, k1_pay127, k1_pay128, k1_pay129, k1_pay130,
    k1_pay131, k1_pay132, k1_pay133, k1_pay134, k1_pay135, k1_pay136, k1_pay137, k1_pay138, k1_pay139, k1_pay140,
    k1_pay141, k1_pay142, k1_pay143, k1_pay144, k1_pay145, k1_pay146, k1_pay147, k1_pay148, k1_pay149, k1_pay150,
    k1_pay151, k1_pay152, k1_pay153, k1_pay154, k1_pay155, k1_pay156, k1_pay157, k1_pay158, k1_pay159, k1_pay160,
    k1_pay161, k1_pay162, k1_pay163, k1_pay164, k1_pay165, k1_pay166, k1_pay167, k1_pay168, k1_pay169, k1_pay170,
    k1_pay171, k1_pay172, k1_pay173, k1_pay174, k1_pay175, k1_pay176, k1_pay177, k1_pay178, k1_pay179, k1_pay180,
    k1_pay181, k1_pay182, k1_pay183, k1_pay184, k1_pay185, k1_pay186, k1_pay187, k1_pay188, k1_pay189, k1_pay190,
    k1_pay191, k1_pay192, k1_pay193, k1_pay194, k1_pay195, k1_pay196, k1_pay197, k1_pay198, k1_pay199, k1_pay200,
    k1_pay201, k1_pay202, k1_pay203, k1_pay204, k1_pay205, k1_pay206, k1_pay207, k1_pay208, k1_pay209, k1_pay210,
    k1_pay211, k1_pay212, k1_pay213, k1_pay214, k1_pay215, k1_pay216, k1_pay217, k1_pay218, k1_pay219, k1_pay220,
    k1_pay221, k1_pay222, k1_pay223, k1_pay224, k1_pay225, k1_pay226, k1_pay227, k1_pay228, k1_pay229, k1_pay230,
    k1_pay231, k1_pay232, k1_pay233, k1_pay234, k1_pay235, k1_pay236, k1_pay237, k1_pay238, k1_pay239, k1_pay240,
    k1_pay241, k1_pay242, k1_pay243, k1_pay244, k1_pay245, k1_pay246, k1_pay247, k1_pay248, k1_pay249, k1_pay250,
    k1_pay251, k1_pay252, k1_pay253, k1_pay254, k1_pay255, k1_pay256, k1_pay257, k1_pay258, k1_pay259, k1_pay260,
    k1_pay261, k1_pay262, k1_pay263, k1_pay264, k1_pay265, k1_pay266, k1_pay267, k1_pay268, k1_pay269, k1_pay270,
    k1_pay271, k1_pay272, k1_pay273, k1_pay274, k1_pay275, k1_pay276, k1_pay277, k1_pay278, k1_pay279, k1_pay280,
    k1_pay281, k1_pay282, k1_pay283, k1_pay284, k1_pay285, k1_pay286, k1_pay287, k1_pay288, k1_pay289, k1_pay290,
    k1_pay291, k1_pay292, k1_pay293, k1_pay294, k1_pay295, k1_pay296, k1_pay297, k1_pay298]

end Cert.Omp

end
-- ==== Proof.Gram.lean ====
/- The first launch over the extended reals: at a finite dictionary its product is the regularised Gram matrix, the part
   kept in the short format is the whole of it, and the two remainders are zero. -/
module

public import proofs.«01_k».proof.Proof.Read
public import proofs.«01_k».proof.Proof.Body

@[expose] public section

set_option maxRecDepth 16384

noncomputable section

namespace Cert.Omp

open Idealize.ShloMosaic Cert.KernelIdeal Cert.KernelIdeal.Gen

variable (d : FVec Ideal S1024x1024 .f32) (D : Fin 1024 → Fin 1024 → ℝ) (hD : ∀ i j, d (ix2 i j) = (D i j : EReal))

theorem pay1_at (i j : Fin 1024) : k0_pay1 (F := Ideal) d (ix2 i j) = ∑ k : Fin 1024, d (ix2 k i) * d (ix2 k j)
    + Scalar.select (IntOp.cmpi .eq (BitVec.ofNat 32 i) (BitVec.ofNat 32 j)) (Ideal.ofBits .f32 0x38D1B717#32) 0 := by
  pointwise [k0_pay1]

include hD in
theorem pay1_real (i j : Fin 1024) : k0_pay1 (F := Ideal) d (ix2 i j) = (gram D i j : EReal) := by
  rw [pay1_at, lit_e1]
  simp only [hD]
  rw [sum_coe_mul, gram, EReal.coe_add]
  congr 1
  by_cases h : i = j
  · subst h
    simp [Scalar.select, IntOp.cmpi]
  · have h' : BitVec.ofNat 32 i.val ≠ BitVec.ofNat 32 j.val := fun e => h (lane_inj.1 e)
    simp [Scalar.select, IntOp.cmpi, h, beq_false_of_ne h']

theorem pay2_at (i j : Fin 1024) : k0_pay2 (F := Ideal) d (ix2 i j) = k0_pay1 (F := Ideal) d (ix2 i j) := by
  pointwise [k0_pay2]

theorem pay3_at (i j : Fin 1024) : k0_pay3 (F := Ideal) d (ix2 i j) = k0_pay1 (F := Ideal) d (ix2 i j) - k0_pay1 (F := Ideal) d (ix2 i j) := by
  pointwise [k0_pay3, k0_pay2]

theorem pay4_at (i j : Fin 1024) : k0_pay4 (F := Ideal) d (ix2 i j) = k0_pay3 (F := Ideal) d (ix2 i j) := by
  pointwise [k0_pay4]

theorem pay5_at (i j : Fin 1024) : k0_pay5 (F := Ideal) d (ix2 i j) = k0_pay3 (F := Ideal) d (ix2 i j) - k0_pay3 (F := Ideal) d (ix2 i j) := by
  pointwise [k0_pay5, k0_pay4]

theorem out0_1_eq (x : Vec Ideal S1024x1024 .f32) : out0_1 x = k0_pay1 x := by
  unfold out0_1
  rw [View.canon_cons_unit_zero (Val := Elt Ideal) (S := S1024x1024) hz, View.ld_unit_zero (S := S1024x1024) hz]
theorem out0_2_eq (x : Vec Ideal S1024x1024 .f32) : out0_2 x = k0_pay2 x := by
  unfold out0_2
  rw [View.canon_cons_unit_zero (Val := Elt Ideal) (S := S1024x1024) hz, View.ld_unit_zero (S := S1024x1024) hz]
theorem out0_3_eq (x : Vec Ideal S1024x1024 .f32) : out0_3 x = k0_pay4 x := by
  unfold out0_3
  rw [View.canon_cons_unit_zero (Val := Elt Ideal) (S := S1024x1024) hz, View.ld_unit_zero (S := S1024x1024) hz]
theorem out0_4_eq (x : Vec Ideal S1024x1024 .f32) : out0_4 x = k0_pay5 x := by
  unfold out0_4
  rw [View.canon_cons_unit_zero (Val := Elt Ideal) (S := S1024x1024) hz, View.ld_unit_zero (S := S1024x1024) hz]

include hD in
theorem gram_hi (i j : Fin 1024) : out0_2 (F := Ideal) d (ix2 i j) = (gram D i j : EReal) := by
  rw [out0_2_eq, pay2_at, pay1_real d D hD]
include hD in
theorem gram_full (i j : Fin 1024) : out0_1 (F := Ideal) d (ix2 i j) = (gram D i j : EReal) := by
  rw [out0_1_eq, pay1_real d D hD]
include hD in
theorem pay3_real (i j : Fin 1024) : k0_pay3 (F := Ideal) d (ix2 i j) = 0 := by
  rw [pay3_at, pay1_real d D hD, ← EReal.coe_sub, sub_self]; rfl
include hD in
theorem gram_mid (i j : Fin 1024) : out0_3 (F := Ideal) d (ix2 i j) = 0 := by
  rw [out0_3_eq, pay4_at, pay3_real d D hD]
include hD in
theorem gram_lo (i j : Fin 1024) : out0_4 (F := Ideal) d (ix2 i j) = 0 := by
  rw [out0_4_eq, pay5_at, pay3_real d D hD, sub_zero]

end Cert.Omp
-- ==== Proof.Choice.lean ====
/- A sequence of choices that agrees with the model's rule exists: what round `t` scores depends only on the atoms
   chosen before it. -/
module

public import proofs.«01_k».proof.Proof.Read

@[expose] public section

noncomputable section

namespace Cert.Omp

open Idealize.ShloMosaic Cert.KernelIdeal Cert.KernelIdeal.Gen

section congr

variable {F : FTy → Type} [FloatOps F] (I : Inp F) {u v : ℕ → IVec S256x1 32} {t : ℕ} (h : ∀ a < t, u a = v a)
include h

theorem hitB_congr (a : ℕ) (ha : a < t) : hitB u a = hitB v a := by unfold hitB; rw [h a ha]

theorem hit_congr (a : ℕ) (ha : a < t) : (hit u a : Rows F) = hit v a := by unfold hit; rw [hitB_congr h a ha]

theorem grow_congr (a : ℕ) (ha : a < t) : grow I u a = grow I v a := by unfold grow; rw [hit_congr h a ha]

theorem tab_congr (n : ℕ) (hn : n ≤ t) : (∀ i < t, ∀ k < t, S I u n i k = S I v n i k) ∧ ∀ i < t, Pv I u n i = Pv I v n i := by
  induction n with
  | zero =>
    refine ⟨fun i hi k hk => ?_, fun i hi => ?_⟩
    · show rowSum _ = rowSum _
      rw [grow_congr I h i hi, hit_congr h k hk]
    · show addf (rowSum _) _ = addf (rowSum _) _
      rw [grow_congr I h i hi, hit_congr h i hi]
  | succ n ih =>
    obtain ⟨h1, h2⟩ := ih (by omega)
    have hl : ∀ i < t, L I u n i = L I v n i := fun i hi => by
      show mulf (S I u n i n) (root (Pv I u n n)) = mulf (S I v n i n) (root (Pv I v n n))
      rw [h1 i hi n (by omega), h2 n (by omega)]
    refine ⟨fun i hi k hk => ?_, fun i hi => ?_⟩
    · show subf (S I u n i k) (mulf (L I u n i) (L I u n k)) = subf (S I v n i k) (mulf (L I v n i) (L I v n k))
      rw [h1 i hi k hk, hl i hi, hl k hk]
    · show subf (Pv I u n i) (mulf (L I u n i) (L I u n i)) = subf (Pv I v n i) (mulf (L I v n i) (L I v n i))
      rw [h2 i hi, hl i hi]

theorem R_congr (n : ℕ) (hn : n < t) : R I u n = R I v n := by
  unfold R; rw [(tab_congr I h n hn.le).2 n hn]

theorem L_congr (n i : ℕ) (hn : n < t) (hi : i < t) : L I u n i = L I v n i := by
  show mulf (S I u n i n) (root (Pv I u n n)) = mulf (S I v n i n) (root (Pv I v n n))
  rw [(tab_congr I h n hn.le).1 i hi n hn, (tab_congr I h n hn.le).2 n hn]

theorem Y_congr (n i : ℕ) (hn : n ≤ t) (hi : i < t) : Y I u n i = Y I v n i := by
  induction n generalizing i with
  | zero =>
    show rowSum _ = rowSum _
    rw [hit_congr h i hi]
  | succ n ih =>
    show subf (Y I u n i) (mulf (L I u n i) (mulf (Y I u n n) (R I u n)))
      = subf (Y I v n i) (mulf (L I v n i) (mulf (Y I v n n) (R I v n)))
    rw [ih i (by omega) hi, ih n (by omega) (by omega), L_congr I h n i (by omega) hi, R_congr I h n (by omega)]

theorem y_congr (n : ℕ) (hn : n < t) : y I u n = y I v n := by
  unfold y; rw [Y_congr I h n n hn.le hn, R_congr I h n hn]

theorem back_congr' (U V : ℕ → Col F) (i n : ℕ) (hn : i + n < t) (hU : ∀ k, i < k → k ≤ i + n → U k = V k) :
    back I u U i n = back I v V i n := by
  induction n with
  | zero => exact y_congr I h i hn
  | succ n ih =>
    show subf (back I u U i n) (mulf (L I u i (i + 1 + n)) (U (i + 1 + n)))
      = subf (back I v V i n) (mulf (L I v i (i + 1 + n)) (V (i + 1 + n)))
    rw [ih (by omega) fun k h1 h2 => hU k h1 (by omega), L_congr I h i _ (by omega) (by omega),
      hU _ (by omega) (by omega)]

theorem sol_congr (m : ℕ) (hm : m ≤ t) (n i : ℕ) (hi : i < m) : sol I u m n i = sol I v m n i := by
  induction n generalizing i with
  | zero => exact y_congr I h i (by omega)
  | succ n ih =>
    show (if i + n + 1 = m then mulf (back I u (sol I u m n) i n) (R I u i) else sol I u m n i)
      = (if i + n + 1 = m then mulf (back I v (sol I v m n) i n) (R I v i) else sol I v m n i)
    split_ifs with e
    · rw [back_congr' I h _ _ i n (by omega) fun k h1 h2 => ih k (by omega), R_congr I h i (by omega)]
    · exact ih i hi

theorem share_congr (m a : ℕ) (hm : m ≤ t) (ha : a < m) : share I u m a = share I v m a := by
  unfold share X; rw [sol_congr I h m hm m a ha, hit_congr h a (by omega)]

theorem W_congr (m n : ℕ) (hm : m ≤ t) (hn : n < m) : W I u m n = W I v m n := by
  induction n with
  | zero => exact share_congr I h m 0 hm hn
  | succ n ih =>
    show addf (W I u m n) (share I u m (n + 1)) = addf (W I v m n) (share I v m (n + 1))
    rw [ih (by omega), share_congr I h m _ hm hn]

theorem H_congr : H I u t = H I v t := by
  cases t with
  | zero => rfl
  | succ m =>
    show subf (hbar I) (times (W I u (m + 1) m) I.g) = subf (hbar I) (times (W I v (m + 1) m) I.g)
    rw [W_congr I h (m + 1) m le_rfl (by omega)]

theorem Mk_congr (n : ℕ) (hn : n ≤ t) : Mk u n = Mk v n := by
  induction n with
  | zero => rfl
  | succ n ih =>
    show ori (Mk u n) (hitB u n) = ori (Mk v n) (hitB v n)
    rw [ih (by omega), hitB_congr h n (by omega)]

theorem sc_congr : sc I u t = sc I v t := by
  unfold sc; rw [H_congr I h, Mk_congr h t le_rfl]

end congr

section exist

variable {F : FTy → Type} [FloatOps F] (I : Inp F)

/-- The first `n` choices. -/
def firsts : ℕ → ℕ → IVec S256x1 32
  | 0 => fun _ _ => 0
  | n + 1 => fun a => if a = n then first (sc I (firsts n) n) else firsts n a

/-- The choices. -/
def chosen (a : ℕ) : IVec S256x1 32 := firsts I (a + 1) a

theorem firsts_eq (n a : ℕ) (ha : a < n) : firsts I n a = chosen I a := by
  induction n with
  | zero => omega
  | succ n ih =>
    show (if a = n then first (sc I (firsts I n) n) else firsts I n a) = _
    split_ifs with e
    · subst e; show _ = if a = a then _ else _; rw [if_pos rfl]
    · exact ih (by omega)

/-- Each choice is the rule's. -/
theorem chosen_spec (t : ℕ) : first (sc I (chosen I) t) = chosen I t := by
  have e : chosen I t = first (sc I (firsts I t) t) := by
    show (if t = t then _ else _) = _
    rw [if_pos rfl]
  rw [e, sc_congr I (u := firsts I t) (v := chosen I) fun a ha => firsts_eq I t a ha]

end exist

/-- On each row a choice is an atom. -/
theorem chosen_lane (I : Inp Ideal) (a : ℕ) (r : Fin 256) :
    ∃ i : Fin 1024, chosen I a (ix2 r 0) = BitVec.ofNat 32 i.val := by
  obtain ⟨i, _, e⟩ := fold_first fun j => sc I (chosen I) a (ix2 r j)
  exact ⟨i, by rw [← chosen_spec, first_at, e]⟩

end Cert.Omp

end
-- ==== Proof.Gathers.lean ====
/- The reference's three gathers read at an element, where the words that place it are atoms' numbers. -/
module

public import proofs.«01_k».proof.Proof.Gen.ReferenceIdeal.Step
public import proofs.«01_k».proof.Proof.Spec
public import Idealize.ShloMosaic.Lib.Pointwise

@[expose] public section

set_option maxRecDepth 16384

noncomputable section

namespace Cert.Omp.Ref

open Idealize.ShloMosaic Cert.ReferenceIdeal

theorem clamp_lane (i : Fin 1024) : min (BitVec.ofNat 32 i.val).toInt.toNat (1024 - 1) = i.val := by
  rw [toInt_lane]; have := i.isLt; omega

theorem gather_pair {α : Type} (x : S1024x1024.Idx → α) (idx : IVec S2048x8x8x2 32) (n : Fin 2048) (a b : Fin 8)
    (p q : Fin 1024) (hp : idx (ix4 n a b 0) = BitVec.ofNat 32 p.val) (hq : idx (ix4 n a b 1) = BitVec.ofNat 32 q.val) :
    Host.gather gather_S1024x1024_S2048x8x8x2_S2048x8x8_n_01_n_n_01_3_11 x idx (ix3 n a b) = x (ix2 p q) := by
  refine congrArg x (funext fun e => Fin.ext ?_)
  match e with
  | ⟨0, _⟩ =>
    refine Eq.trans (b := min (idx (ix4 n a b 0)).toInt.toNat (1024 - 1)) ?_ (by rw [hp, clamp_lane]; rfl)
    have : gather_S1024x1024_S2048x8x8x2_S2048x8x8_n_01_n_n_01_3_11.siIdx (ix3 n a b) ⟨0, by decide⟩ = ix4 n a b 0 := by
      funext e
      match e with
      | ⟨0, _⟩ => rfl
      | ⟨1, _⟩ => rfl
      | ⟨2, _⟩ => rfl
      | ⟨3, _⟩ => rfl
    rw [← this]
    rfl
  | ⟨1, _⟩ =>
    refine Eq.trans (b := min (idx (ix4 n a b 1)).toInt.toNat (1024 - 1)) ?_ (by rw [hq, clamp_lane]; rfl)
    have : gather_S1024x1024_S2048x8x8x2_S2048x8x8_n_01_n_n_01_3_11.siIdx (ix3 n a b) ⟨1, by decide⟩ = ix4 n a b 1 := by
      funext e
      match e with
      | ⟨0, _⟩ => rfl
      | ⟨1, _⟩ => rfl
      | ⟨2, _⟩ => rfl
      | ⟨3, _⟩ => rfl
    rw [← this]
    rfl

theorem gather_along {α : Type} (x : S2048x1024.Idx → α) (idx : IVec S2048x8x1 32) (n : Fin 2048) (a : Fin 8)
    (p : Fin 1024) (hp : idx (ix3 n a 0) = BitVec.ofNat 32 p.val) :
    Host.gather gather_S2048x1024_S2048x8x1_S2048x8_n_1_0_0_1_2_11 x idx (ix2 n a) = x (ix2 n p) := by
  refine congrArg x (funext fun e => Fin.ext ?_)
  match e with
  | ⟨0, _⟩ =>
    show _ = n.val
    simp only [GatherDims.operandIdx]
    show 0 + n.val + 0 = n.val
    omega
  | ⟨1, _⟩ =>
    refine Eq.trans (b := min (idx (ix3 n a 0)).toInt.toNat (1024 - 1)) ?_ (by rw [hp, clamp_lane]; rfl)
    have : gather_S2048x1024_S2048x8x1_S2048x8_n_1_0_0_1_2_11.siIdx (ix2 n a) ⟨0, by decide⟩ = ix3 n a 0 := by
      funext e
      match e with
      | ⟨0, _⟩ => rfl
      | ⟨1, _⟩ => rfl
      | ⟨2, _⟩ => rfl
    rw [← this]
    rfl

theorem gather_rows {α : Type} (x : S1024x1024.Idx → α) (idx : IVec S2048x8x1 32) (n : Fin 2048) (a : Fin 8)
    (k p : Fin 1024) (hp : idx (ix3 n a 0) = BitVec.ofNat 32 p.val) :
    Host.gather gather_S1024x1024_S2048x8x1_S2048x8x1024_2_0_n_n_0_2_11024 x idx (ix3 n a k) = x (ix2 p k) := by
  refine congrArg x (funext fun e => Fin.ext ?_)
  match e with
  | ⟨0, _⟩ =>
    refine Eq.trans (b := min (idx (ix3 n a 0)).toInt.toNat (1024 - 1)) ?_ (by rw [hp, clamp_lane]; rfl)
    have : gather_S1024x1024_S2048x8x1_S2048x8x1024_2_0_n_n_0_2_11024.siIdx (ix3 n a k) ⟨0, by decide⟩ = ix3 n a 0 := by
      funext e
      match e with
      | ⟨0, _⟩ => rfl
      | ⟨1, _⟩ => rfl
      | ⟨2, _⟩ => rfl
    rw [← this]
    rfl
  | ⟨1, _⟩ =>
    show _ = k.val
    simp only [GatherDims.operandIdx]
    exact Nat.zero_add _

end Cert.Omp.Ref
-- ==== Proof.RefRead.lean ====
/- The values of one trip of the reference's loop read at a patch, over the extended reals. -/
module

public import proofs.«01_k».proof.Proof.Gathers

@[expose] public section

set_option maxRecDepth 16384

noncomputable section

namespace Cert.Omp.Ref

open Idealize.ShloMosaic Cert.ReferenceIdeal Cert.ReferenceIdeal.Step

/-- A word that places an atom, a negative one counted from the end. -/
def wrap (w : BitVec 32) : BitVec 32 := Scalar.select (IntOp.cmpi .slt w 0#32) (IntOp.addi w 1024#32) w

/-- The top one of each row: where the row's sort starts. -/
theorem topK_one {N K : ℕ} {α : Type} (gt : α → α → BitVec 1) (x : (⟨2, ![N, K + 1]⟩ : Shape).Idx → α)
    (h : (⟨2, ![N, K + 1]⟩ : Shape).Slices (fun _ => 0) ⟨2, ![N, 1]⟩) (n : Fin N) :
    (Host.topK ⟨2, ![N, 1]⟩ 1 gt x h).2 (ix2 n 0)
      = BitVec.ofNat 32 (sortedFrom (fun k k' : Fin (K + 1) => gt (x (ix2 n k)) (x (ix2 n k')) == 1#1) 0).val := by
  unfold Host.topK Host.sort2
  have al : ∀ (J : (⟨2, ![N, K + 1]⟩ : Shape).Idx), (J 0).val = n.val → ∀ (h : 1 < 2) (k : Fin (K + 1)),
      J.along ⟨1, h⟩ k = ix2 n k := fun J hJ h k => by
    funext a
    fin_cases a
    · exact (Function.update_of_ne (show (0 : Fin 2) ≠ 1 by decide) k J).trans (Fin.ext hJ)
    · exact Function.update_self (1 : Fin 2) k J
  simp only [extractStridedSlice]
  rw [dif_pos (by decide)]
  generalize hJ : (fun a => ⟨_, _⟩ : (⟨2, ![N, K + 1]⟩ : Shape).Idx) = J
  have hJ0 : (J 0).val = n.val := by subst hJ; exact Nat.zero_add _
  have hJ1 : (J 1).val = 0 := by subst hJ; rfl
  have hJ2 : @Eq (Fin (K + 1)) (J 1) 0 := Fin.ext hJ1
  dsimp only
  rw [dif_pos (by decide)]
  refine (congrArg (fun v : Fin (K + 1) => BitVec.ofNat 32 v.val) ?_ :)
  refine (congrFun (congrArg (sortedFrom (n := K + 1)) (funext fun k => funext fun k' => ?_)) (J 1)).trans (congrArg _ hJ2)
  rw [al J hJ0, al J hJ0]

variable (j : ℕ) (s : State Ideal) (n : Fin 2048)

theorem b5_at (k : Fin 1024) :
    (b5 j s (ix2 n k) : EReal) = Scalar.select (s.main_v56_5 (ix2 n k)) (Ideal.ofBits .f32 0xBF800000#32) (max (s.main_v56_6 (ix2 n k)) (-(s.main_v56_6 (ix2 n k)))) := by
  pointwise [b5, b4, b3, b2]
  rfl

theorem b8_at : (b8 j s (ix1 n) : BitVec 32)
    = BitVec.ofNat 32 (sortedFrom (above fun k => (b5 j s (ix2 n k) : EReal)) 0).val := by
  have e : (b8 j s (ix1 n) : BitVec 32) = b7 j s (ix2 n 0) := by
    pointwise [b8]
  rw [e, b7]
  exact topK_one (K := 1023) (FloatOps.cmpfTotal (F := Ideal) .gt) (b5 j s) _ n

theorem b15_at (k : Fin 1024) :
    (b15 j s (ix2 n k) : BitVec 1) = IntOp.ori (s.main_v56_5 (ix2 n k)) (IntOp.cmpi .eq (BitVec.ofNat 32 k) (b8 j s (ix1 n))) := by
  pointwise [b15, b14, b13, b12, b11, b10, b9]

theorem b23_at (a : Fin 8) :
    (b23 j s (ix2 n a) : BitVec 32) = Scalar.select (IntOp.cmpi .eq (BitVec.ofNat 32 a) (BitVec.ofNat 32 j)) (b8 j s (ix1 n)) (s.main_v56_7 (ix2 n a)) := by
  pointwise [b23, b22, b21, b20, b19, b18, b17, b16, K_main_v52]
  rfl

theorem b47a_at (a b : Fin 8) :
    (b47 j s (ix4 n a b 0) : BitVec 32) = wrap (b23 j s (ix2 n a)) := by
  pointwise [wrap, b47, b46, b45, b44, b43, b42, b41, b40, b39, b38, b37, b36, b35, b34, b33, b32, b31, b30, b29, b28, b27]

theorem b47b_at (a b : Fin 8) :
    (b47 j s (ix4 n a b 1) : BitVec 32) = wrap (b23 j s (ix2 n b)) := by
  pointwise [wrap, b47, b46, b45, b44, b43, b42, b41, b40, b39, b38, b37, b36, b35, b34, b33, b32, b31, b30, b29, b28, b27]

theorem b56_at (a : Fin 8) :
    (b56 j s (ix3 n a 0) : BitVec 32) = wrap (b23 j s (ix2 n a)) := by
  pointwise [wrap, b56, b55, b54, b53, b52, b51, b50, b49]

theorem b66_at (a : Fin 8) :
    (b66 j s (ix2 n a) : BitVec 1) = IntOp.andi (IntOp.cmpi .sge (b56 j s (ix3 n a 0)) 0#32) (IntOp.cmpi .sle (b56 j s (ix3 n a 0)) 1023#32) := by
  pointwise [b66, b65, b64, b63, b62, b61, b60, b59, b58, b57]
  rw [show (Finset.univ : Finset (Fin 1)) = {0} from rfl, Finset.fold_singleton]
  exact BitVec.and_allOnes

theorem b70_at (a : Fin 8) :
    (b70 j s (ix2 n a) : EReal) = Scalar.select (b66 j s (ix2 n a)) (b67 j s (ix2 n a)) (Ideal.ofBits .f32 0x7FC00000#32) := by
  pointwise [b70, b69, b68]

theorem b98_at (a b : Fin 8) :
    (b98 j s (ix3 n a b) : EReal) = Scalar.select (IntOp.andi (IntOp.cmpi .sle (BitVec.ofNat 32 a) (BitVec.ofNat 32 j)) (IntOp.cmpi .sle (BitVec.ofNat 32 b) (BitVec.ofNat 32 j)))
      (b48 j s (ix3 n a b) + Ideal.ofBits .f32 0x358637BD#32 * (((IntOp.cmpi .eq (BitVec.ofNat 32 a) (BitVec.ofNat 32 b)).toNat : ℝ) : EReal))
      (((IntOp.cmpi .eq (BitVec.ofNat 32 a) (BitVec.ofNat 32 b)).toNat : ℝ) : EReal) := by
  pointwise [b98, b97, b96, b95, b94, b93, b92, b91, b90, b89, b88, b87, b86, b85, b84, b83, b82, b81, b80, b79, b78, b77, b76, b75, b74, b73, b72, b71, b26, b25, b24, K_main_v52]
  rw [show IntOp.addi (BitVec.ofNat 32 a.val) 0#32 = BitVec.ofNat 32 a.val from BitVec.add_zero _]
  rfl

theorem b102_at (a : Fin 8) :
    (b102 j s (ix2 n a) : EReal) = Scalar.select (IntOp.cmpi .sle (BitVec.ofNat 32 a) (BitVec.ofNat 32 j)) (b70 j s (ix2 n a)) 0 := by
  pointwise [b102, b101, b100, b99, b26, b25, b24, K_main_v52]
  rfl

theorem b104_at (a : Fin 8) (q : Fin 9) :
    (b104 j s (ix3 n a q) : EReal) = if h : q.val < 8 then b98 j s (ix3 n a ⟨q, h⟩) else b102 j s (ix2 n a) := by
  pointwise [b104, b103]

theorem b121_at (a : Fin 8) (q : Fin 9) :
    (b121 j s (ix3 n a q) : EReal) = Scalar.select (IntOp.cmpi .eq (BitVec.ofNat 32 a) 0#32)
      (Ideal.div (b104 j s (ix3 n 0 q)) (b104 j s (ix3 n 0 0)))
      (b104 j s (ix3 n a q) - b104 j s (ix3 n a 0) * Ideal.div (b104 j s (ix3 n 0 q)) (b104 j s (ix3 n 0 0))) := by
  pointwise [b121, b120, b119, b118, b117, b116, b115, b114, b113, b112, b111, b110, b109, b108, b107, b106, b105]

theorem b136_at (a : Fin 8) (q : Fin 9) :
    (b136 j s (ix3 n a q) : EReal) = Scalar.select (IntOp.cmpi .eq (BitVec.ofNat 32 a) 1#32)
      (Ideal.div (b121 j s (ix3 n 1 q)) (b121 j s (ix3 n 1 1)))
      (b121 j s (ix3 n a q) - b121 j s (ix3 n a 1) * Ideal.div (b121 j s (ix3 n 1 q)) (b121 j s (ix3 n 1 1))) := by
  pointwise [b136, b135, b134, b133, b132, b131, b130, b129, b128, b127, b126, b125, b124, b123, b122, b106, b105]

theorem b151_at (a : Fin 8) (q : Fin 9) :
    (b151 j s (ix3 n a q) : EReal) = Scalar.select (IntOp.cmpi .eq (BitVec.ofNat 32 a) 2#32)
      (Ideal.div (b136 j s (ix3 n 2 q)) (b136 j s (ix3 n 2 2)))
      (b136 j s (ix3 n a q) - b136 j s (ix3 n a 2) * Ideal.div (b136 j s (ix3 n 2 q)) (b136 j s (ix3 n 2 2))) := by
  pointwise [b151, b150, b149, b148, b147, b146, b145, b144, b143, b142, b141, b140, b139, b138, b137, b106, b105]

theorem b166_at (a : Fin 8) (q : Fin 9) :
    (b166 j s (ix3 n a q) : EReal) = Scalar.select (IntOp.cmpi .eq (BitVec.ofNat 32 a) 3#32)
      (Ideal.div (b151 j s (ix3 n 3 q)) (b151 j s (ix3 n 3 3)))
      (b151 j s (ix3 n a q) - b151 j s (ix3 n a 3) * Ideal.div (b151 j s (ix3 n 3 q)) (b151 j s (ix3 n 3 3))) := by
  pointwise [b166, b165, b164, b163, b162, b161, b160, b159, b158, b157, b156, b155, b154, b153, b152, b106, b105]

theorem b181_at (a : Fin 8) (q : Fin 9) :
    (b181 j s (ix3 n a q) : EReal) = Scalar.select (IntOp.cmpi .eq (BitVec.ofNat 32 a) 4#32)
      (Ideal.div (b166 j s (ix3 n 4 q)) (b166 j s (ix3 n 4 4)))
      (b166 j s (ix3 n a q) - b166 j s (ix3 n a 4) * Ideal.div (b166 j s (ix3 n 4 q)) (b166 j s (ix3 n 4 4))) := by
  pointwise [b181, b180, b179, b178, b177, b176, b175, b174, b173, b172, b171, b170, b169, b168, b167, b106, b105]

theorem b196_at (a : Fin 8) (q : Fin 9) :
    (b196 j s (ix3 n a q) : EReal) = Scalar.select (IntOp.cmpi .eq (BitVec.ofNat 32 a) 5#32)
      (Ideal.div (b181 j s (ix3 n 5 q)) (b181 j s (ix3 n 5 5)))
      (b181 j s (ix3 n a q) - b181 j s (ix3 n a 5) * Ideal.div (b181 j s (ix3 n 5 q)) (b181 j s (ix3 n 5 5))) := by
  pointwise [b196, b195, b194, b193, b192, b191, b190, b189, b188, b187, b186, b185, b184, b183, b182, b106, b105]

theorem b211_at (a : Fin 8) (q : Fin 9) :
    (b211 j s (ix3 n a q) : EReal) = Scalar.select (IntOp.cmpi .eq (BitVec.ofNat 32 a) 6#32)
      (Ideal.div (b196 j s (ix3 n 6 q)) (b196 j s (ix3 n 6 6)))
      (b196 j s (ix3 n a q) - b196 j s (ix3 n a 6) * Ideal.div (b196 j s (ix3 n 6 q)) (b196 j s (ix3 n 6 6))) := by
  pointwise [b211, b210, b209, b208, b207, b206, b205, b204, b203, b202, b201, b200, b199, b198, b197, b106, b105]

theorem b226_at (a : Fin 8) (q : Fin 9) :
    (b226 j s (ix3 n a q) : EReal) = Scalar.select (IntOp.cmpi .eq (BitVec.ofNat 32 a) 7#32)
      (Ideal.div (b211 j s (ix3 n 7 q)) (b211 j s (ix3 n 7 7)))
      (b211 j s (ix3 n a q) - b211 j s (ix3 n a 7) * Ideal.div (b211 j s (ix3 n 7 q)) (b211 j s (ix3 n 7 7))) := by
  pointwise [b226, b225, b224, b223, b222, b221, b220, b219, b218, b217, b216, b215, b214, b213, b212, b106, b105]

theorem b228_at (a : Fin 8) :
    (b228 j s (ix2 n a) : EReal) = b226 j s (ix3 n a 8) := by
  pointwise [b228, b227]

theorem b236_at (a : Fin 8) :
    (b236 j s (ix3 n a 0) : BitVec 32) = wrap (b23 j s (ix2 n a)) := by
  pointwise [wrap, b236, b235, b234, b233, b232, b231, b230, b229]

theorem b239_at (k : Fin 1024) :
    (b239 j s (ix2 n k) : EReal) = s.main_v56_2 (ix2 n k) - ∑ a : Fin 8, b228 j s (ix2 n a) * b237 j s (ix3 n a k) := by
  pointwise [b239, b238]

end Cert.Omp.Ref
-- ==== Proof.Solve.lean ====
/- The system of the first `m` atoms, padded with the identity to eight rows: its pivots are positive, so eliminating all
   eight of its columns leaves the solution of the first `m`, and zero below. -/
module

public import proofs.«01_k».proof.Proof.Spec
public import proofs.«01_k».proof.Proof.Math

@[expose] public section

noncomputable section

namespace Cert.Omp

open Finset

/-- The padded matrix. -/
def Ap (A : ℕ → ℕ → ℝ) (m i k : ℕ) : ℝ := if i < m ∧ k < m then A i k else if i = k then 1 else 0
/-- A column padded with zeros. -/
def pad0 (m : ℕ) (v : ℕ → ℝ) (i : ℕ) : ℝ := if i < m then v i else 0

theorem Ap_symm {A : ℕ → ℕ → ℝ} (hs : ∀ i k, A i k = A k i) (m i k : ℕ) : Ap A m i k = Ap A m k i := by
  unfold Ap
  rw [hs i k]
  simp only [and_comm (a := i < m), eq_comm (a := i)]

theorem Ap_pos {A : ℕ → ℕ → ℝ} {e : ℝ} (he : e ≤ 1) {M : ℕ} (hp : Math.Pos A e M) (m : ℕ) : Math.Pos (Ap A m) e M := by
  intro v
  have h := hp (pad0 m v)
  have e1 : ∀ i k, v i * v k * Ap A m i k
      = pad0 m v i * pad0 m v k * A i k + if i = k then (if i < m then 0 else v i ^ 2) else 0 := by
    intro i k
    unfold Ap pad0
    by_cases hi : i < m
    · by_cases hk : k < m
      · simp [hi, hk]
      · have : i ≠ k := by omega
        simp [hi, hk, this]
    · by_cases hk : k < m
      · have : i ≠ k := by omega
        simp [hi, hk, this]
      · by_cases hik : i = k
        · subst hik; simp [hi]; ring
        · simp [hi, hk, hik]
  have e2 : ∀ i, v i ^ 2 = pad0 m v i ^ 2 + if i < m then 0 else v i ^ 2 := by
    intro i; unfold pad0; by_cases hi : i < m <;> simp [hi]
  have e3 : ∑ i ∈ range M, ∑ k ∈ range M, (if i = k then (if i < m then 0 else v i ^ 2) else 0)
      = ∑ i ∈ range M, if i < m then 0 else v i ^ 2 :=
    Finset.sum_congr rfl fun i hi => by rw [Finset.sum_ite_eq]; rw [if_pos hi]
  simp only [e1, Finset.sum_add_distrib]
  rw [e3, Finset.sum_congr rfl fun i _ => e2 i, Finset.sum_add_distrib, mul_add]
  have h0 : 0 ≤ ∑ i ∈ range M, if i < m then 0 else v i ^ 2 :=
    Finset.sum_nonneg fun i _ => by split_ifs; exacts [le_rfl, sq_nonneg _]
  have : e * (∑ i ∈ range M, if i < m then 0 else v i ^ 2) ≤ 1 * ∑ i ∈ range M, if i < m then 0 else v i ^ 2 :=
    mul_le_mul_of_nonneg_right he h0
  linarith

theorem sum_pad {m M : ℕ} (hm : m ≤ M) (f v : ℕ → ℝ) : ∑ k ∈ range M, f k * pad0 m v k = ∑ k ∈ range m, f k * v k := by
  refine (Finset.sum_subset (Finset.range_subset_range.2 hm) fun k _ hk => ?_).symm.trans ?_
  · rw [Finset.mem_range] at hk; rw [pad0, if_neg hk, mul_zero]
  · exact Finset.sum_congr rfl fun k hk => by rw [pad0, if_pos (Finset.mem_range.1 hk)]

theorem Ap_solves {A : ℕ → ℕ → ℝ} {m M : ℕ} (hm : m ≤ M) {b x : ℕ → ℝ} (hx : ∀ i < m, ∑ k ∈ range m, A i k * x k = b i)
    (i : ℕ) (hi : i < M) : ∑ k ∈ range M, Ap A m i k * pad0 m x k = pad0 m b i := by
  rw [sum_pad hm]
  by_cases h : i < m
  · rw [pad0, if_pos h, ← hx i h]
    exact Finset.sum_congr rfl fun k hk => by rw [Ap, if_pos ⟨h, Finset.mem_range.1 hk⟩]
  · rw [pad0, if_neg h]
    refine Finset.sum_eq_zero fun k hk => ?_
    have := Finset.mem_range.1 hk
    rw [Ap, if_neg (by omega), if_neg (by omega), zero_mul]

section

variable (D : Fin 1024 → Fin 1024 → ℝ) (ix : ℕ → Fin 1024) (m : ℕ)

theorem padded_pivot (p : ℕ) (hp : p < 8) : 0 < Math.T (Ap (An (gram D) ix) m) p p p :=
  e2_pos.trans_le (Math.pivot_le (Ap_symm (An_symm (gram_symm D) ix) m) e2_pos (Ap_pos e2_le (An_pos D ix 8) m) p hp)

theorem padded_ne (b : ℕ → ℝ) (p : ℕ) (hp : p < 8) : Math.GJ (Ap (An (gram D) ix) m) b 8 p p p ≠ 0 := by
  rw [Math.GJ_pivot (Ap_symm (An_symm (gram_symm D) ix) m) hp]
  exact (padded_pivot D ix m p hp).ne'

theorem padded_solves (hm : m ≤ 8) {b x : ℕ → ℝ} (hx : ∀ i < m, ∑ k ∈ range m, An (gram D) ix i k * x k = b i)
    (i : ℕ) (hi : i < 8) : Math.GJ (Ap (An (gram D) ix) m) (pad0 m b) 8 8 i 8 = pad0 m x i :=
  Math.GJ_solves (Ap_symm (An_symm (gram_symm D) ix) m) (padded_pivot D ix m) (pad0 m x)
    (Ap_solves hm hx) i hi

end

end Cert.Omp
-- ==== Proof.RefRow.lean ====
/- One patch of the reference followed through its loop: if the patch's correlations have a run of the pursuit, then before
   trip `t` the loop holds that run's first `t` choices. -/
module

public import proofs.«01_k».proof.Proof.RefRead
public import proofs.«01_k».proof.Proof.Solve

@[expose] public section

set_option maxRecDepth 16384

noncomputable section

namespace Cert.Omp.Ref

open Idealize.ShloMosaic Cert.ReferenceIdeal Cert.ReferenceIdeal.Step

/-! Words of small numbers. -/

theorem eq_word (a t : Fin 8) : IntOp.cmpi .eq (BitVec.ofNat 32 a.val) (BitVec.ofNat 32 t.val) = if a.val = t.val then 1#1 else 0#1 := by
  revert a t; decide
theorem le_word (a t : Fin 8) : IntOp.cmpi .sle (BitVec.ofNat 32 a.val) (BitVec.ofNat 32 t.val) = if a.val < t.val + 1 then 1#1 else 0#1 := by
  revert a t; decide
theorem wrap_lane (i : Fin 1024) : wrap (BitVec.ofNat 32 i.val) = BitVec.ofNat 32 i.val := by
  unfold wrap
  have : IntOp.cmpi .slt (BitVec.ofNat 32 i.val) 0#32 = 0#1 := by
    simp only [IntOp.cmpi, BitVec.slt, toInt_lane]
    have h : ¬ ((i.val : ℤ) < (0#32 : BitVec 32).toInt) := by simp
    rw [decide_eq_false h]; rfl
  rw [this]; rfl
theorem lane_ge (i : Fin 1024) : IntOp.cmpi .sge (BitVec.ofNat 32 i.val) 0#32 = 1#1 := by
  simp [IntOp.cmpi, BitVec.sle, toInt_lane]
theorem lane_le (i : Fin 1024) : IntOp.cmpi .sle (BitVec.ofNat 32 i.val) 1023#32 = 1#1 := by
  have := i.isLt
  simp only [IntOp.cmpi, BitVec.sle, toInt_lane]
  have h : i.val ≤ 1023 := by omega
  simp [h]

/-- One elimination step over the extended reals is the step over the reals. -/
theorem gj_step {A : ℕ → ℕ → ℝ} {b : ℕ → ℝ} (k : Fin 8) (k' : Fin 9) (hk : k'.val = k.val) (P Q : Fin 8 → Fin 9 → EReal)
    (hne : Math.GJ A b 8 k k k ≠ 0)
    (hP : ∀ i q, P i q = (Math.GJ A b 8 k i q : EReal))
    (hQ : ∀ i q, Q i q = Scalar.select (IntOp.cmpi .eq (BitVec.ofNat 32 i.val) (BitVec.ofNat 32 k.val)) (Ideal.div (P k q) (P k k'))
      (P i q - P i k' * Ideal.div (P k q) (P k k')))
    (i : Fin 8) (q : Fin 9) : Q i q = (Math.GJ A b 8 (k + 1) i q : EReal) := by
  rw [hQ, eq_word, hP k q, hP k k', hP i q, hP i k', hk, div_real _ hne, ← EReal.coe_mul, ← EReal.coe_sub, Math.GJ]
  by_cases h : i.val = k.val
  · simp [Scalar.select, h]
  · simp [Scalar.select, h]

section row

variable (s : State Ideal) (n : Fin 2048) (D : Fin 1024 → Fin 1024 → ℝ) (hb : Fin 1024 → ℝ) (ix : ℕ → Fin 1024) (c : ℕ → ℕ → ℝ)

/-- What the loop holds for patch `n` after `t` choices of the run. -/
structure Row (t : ℕ) : Prop where
  mask : ∀ k, (s.main_v56_5 (ix2 n k) : BitVec 1) = 1#1 ↔ Taken ix t k
  h : ∀ k, (s.main_v56_6 (ix2 n k) : EReal) = (res (gram D) hb ix c t k : EReal)
  atoms : ∀ a : Fin 8, a.val < t → (s.main_v56_7 (ix2 n a) : BitVec 32) = BitVec.ofNat 32 (ix a).val
  free : ∀ a : Fin 8, ¬ a.val < t → (s.main_v56_7 (ix2 n a) : BitVec 32) = BitVec.ofNat 32 (0 : Fin 1024).val
  coeffs : ∀ a : Fin 8, (s.main_v56_8 (ix2 n a) : EReal) = (pad0 t (c t) a : EReal)
  G : ∀ i j, (s.main_v56_1 (ix2 i j) : EReal) = (gram D i j : EReal)
  hbar : ∀ k, (s.main_v56_2 (ix2 n k) : EReal) = (hb k : EReal)

/-- The atoms in the slots after trip `t`. -/
def slot (t a : ℕ) : Fin 1024 := if a < t + 1 then ix a else 0

variable {s n D hb ix c} {t : Fin 8} (hr : Row s n D hb ix c t) (hp : Path (gram D) hb ix c)

include hr in
theorem Row.score (k : Fin 1024) : (b5 t s (ix2 n k) : EReal) = score (gram D) hb ix c t k := by
  rw [b5_at, hr.h, abs_coe, lit_neg]
  unfold Omp.score Scalar.select
  by_cases e : Taken ix t k
  · rw [if_pos e, if_pos (show _ = (1 : BitVec 1) from (hr.mask k).2 e)]
  · rw [if_neg e, if_neg (show ¬ _ = (1 : BitVec 1) from fun e' => e ((hr.mask k).1 e'))]

include hr hp in
theorem Row.pick : (b8 t s (ix1 n) : BitVec 32) = BitVec.ofNat 32 (ix t).val := by
  rw [b8_at, show (fun k => (b5 t s (ix2 n k) : EReal)) = Omp.score (gram D) hb ix c t from funext hr.score]
  rw [(sorted_first _).unique (hp.pick t t.isLt)]

include hr hp in
theorem Row.slots (a : Fin 8) : (b23 t s (ix2 n a) : BitVec 32) = BitVec.ofNat 32 (slot ix t a).val := by
  rw [b23_at, eq_word, hr.pick hp]
  unfold slot
  by_cases e : a.val = t.val
  · simp [Scalar.select, e]
  · rw [if_neg e]
    by_cases h : a.val < t.val
    · rw [if_pos (by omega)]; exact hr.atoms a h
    · rw [if_neg (by omega)]; exact hr.free a h

include hr hp in
theorem Row.mask' (k : Fin 1024) : (b15 t s (ix2 n k) : BitVec 1) = 1#1 ↔ Taken ix (t + 1) k := by
  rw [b15_at, hr.pick hp]
  have hT : Taken ix (t + 1) k ↔ Taken ix t k ∨ k = ix t := by
    constructor
    · rintro ⟨a, ha, e⟩
      rcases Nat.lt_succ_iff_lt_or_eq.1 ha with h | h
      · exact .inl ⟨a, h, e⟩
      · subst h; exact .inr e.symm
    · rintro (⟨a, ha, e⟩ | e)
      · exact ⟨a, by omega, e⟩
      · exact ⟨t, by omega, e.symm⟩
  rw [hT, ← hr.mask]
  generalize (s.main_v56_5 (ix2 n k) : BitVec 1) = b
  have hc : IntOp.cmpi .eq (BitVec.ofNat 32 k.val) (BitVec.ofNat 32 (ix t).val) = if k = ix t then 1#1 else 0#1 := by
    by_cases e : k = ix t
    · subst e; simp [IntOp.cmpi]
    · rw [if_neg e]
      have : BitVec.ofNat 32 k.val ≠ BitVec.ofNat 32 (ix t).val := fun h => e (lane_inj.1 h)
      simp [IntOp.cmpi, beq_false_of_ne this]
  rw [hc]
  by_cases e : k = ix t
  · rcases BitVec.eq_zero_or_eq_one b with rfl | rfl <;> simp [e, IntOp.ori]
  · rcases BitVec.eq_zero_or_eq_one b with rfl | rfl <;> simp [e, IntOp.ori]

include hr hp in
theorem Row.pair (a b : Fin 8) : (b48 t s (ix3 n a b) : EReal) = (gram D (slot ix t a) (slot ix t b) : EReal) := by
  refine Eq.trans ?_ (hr.G (slot ix t a) (slot ix t b))
  refine gather_pair (s.main_v56_1) (b47 t s) n a b _ _ ?_ ?_
  · rw [b47a_at, hr.slots hp, wrap_lane]
  · rw [b47b_at, hr.slots hp, wrap_lane]

include hr hp in
theorem Row.side (a : Fin 8) : (b70 t s (ix2 n a) : EReal) = (hb (slot ix t a) : EReal) := by
  have h67 : (b56 t s (ix3 n a 0) : BitVec 32) = BitVec.ofNat 32 (slot ix t a).val := by
    rw [b56_at, hr.slots hp, wrap_lane]
  rw [b70_at, b66_at, h67, lane_ge, lane_le]
  refine Eq.trans ?_ (hr.hbar (slot ix t a))
  exact gather_along (s.main_v56_2) (b56 t s) n a _ h67

/-- The padded system of the trip. -/
abbrev sysA (D : Fin 1024 → Fin 1024 → ℝ) (ix : ℕ → Fin 1024) (t : ℕ) : ℕ → ℕ → ℝ := Ap (An (gram D) ix) (t + 1)
abbrev sysB (hb : Fin 1024 → ℝ) (ix : ℕ → Fin 1024) (t : ℕ) : ℕ → ℝ := pad0 (t + 1) (bn hb ix)

include hr hp in
theorem Row.matrix (a b : Fin 8) : (b98 t s (ix3 n a b) : EReal) = (sysA D ix t a b : EReal) := by
  rw [b98_at, le_word, le_word, eq_word, hr.pair hp, lit_e2]
  unfold sysA Ap slot An
  have hz : (((0#1 : BitVec 1).toNat : ℝ) : EReal) = ((0 : ℝ) : EReal) := by norm_num
  have ho : (((1#1 : BitVec 1).toNat : ℝ) : EReal) = ((1 : ℝ) : EReal) := by norm_num
  by_cases h1 : a.val < t.val + 1
  · by_cases h2 : b.val < t.val + 1
    · rw [if_pos h1, if_pos h2, if_pos (And.intro h1 h2), if_pos h1, if_pos h2]
      refine Eq.trans (b := _ + _) rfl ?_
      rw [EReal.coe_add]
      congr 1
      by_cases e : a.val = b.val
      · rw [if_pos e, if_pos e, ho, ← EReal.coe_mul, mul_one]
      · rw [if_neg e, if_neg e, hz, ← EReal.coe_mul, mul_zero]
    · rw [if_pos h1, if_neg h2, if_neg (fun h : _ ∧ _ => h2 h.2)]
      refine Eq.trans (b := (((if a.val = b.val then 1#1 else 0#1 : BitVec 1).toNat : ℝ) : EReal)) rfl ?_
      by_cases e : a.val = b.val
      · rw [if_pos e, if_pos e, ho]
      · rw [if_neg e, if_neg e, hz]
  · rw [if_neg h1, if_neg (fun h : _ ∧ _ => h1 h.1)]
    refine Eq.trans (b := (((if a.val = b.val then 1#1 else 0#1 : BitVec 1).toNat : ℝ) : EReal)) ?_ ?_
    · by_cases h2 : b.val < t.val + 1
      · rw [if_pos h2]; rfl
      · rw [if_neg h2]; rfl
    · by_cases e : a.val = b.val
      · rw [if_pos e, if_pos e, ho]
      · rw [if_neg e, if_neg e, hz]

include hr hp in
theorem Row.column (a : Fin 8) : (b102 t s (ix2 n a) : EReal) = (sysB hb ix t a : EReal) := by
  rw [b102_at, le_word, hr.side hp]
  unfold sysB pad0 slot bn
  by_cases h1 : a.val < t.val + 1
  · rw [if_pos h1, if_pos h1, if_pos h1]; rfl
  · rw [if_neg h1, if_neg h1, if_neg h1]; rfl

include hr hp in
theorem Row.start (a : Fin 8) (q : Fin 9) :
    (b104 t s (ix3 n a q) : EReal) = (Math.GJ (sysA D ix t) (sysB hb ix t) 8 0 a q : EReal) := by
  rw [b104_at, Math.GJ]
  by_cases h : q.val < 8
  · rw [dif_pos h, if_pos h, hr.matrix hp]
  · rw [dif_neg h, if_neg h, hr.column hp]

include hr hp in
theorem Row.gj1 (a : Fin 8) (q : Fin 9) :
    (b121 t s (ix3 n a q) : EReal) = (Math.GJ (sysA D ix t) (sysB hb ix t) 8 1 a q : EReal) :=
  gj_step 0 0 rfl (fun a q => (b104 t s (ix3 n a q) : EReal)) (fun a q => (b121 t s (ix3 n a q) : EReal))
    (padded_ne D ix (t + 1) _ 0 (by decide)) (hr.start hp) (b121_at t s n) a q

include hr hp in
theorem Row.gj2 (a : Fin 8) (q : Fin 9) :
    (b136 t s (ix3 n a q) : EReal) = (Math.GJ (sysA D ix t) (sysB hb ix t) 8 2 a q : EReal) :=
  gj_step 1 1 rfl (fun a q => (b121 t s (ix3 n a q) : EReal)) (fun a q => (b136 t s (ix3 n a q) : EReal))
    (padded_ne D ix (t + 1) _ 1 (by decide)) (hr.gj1 hp) (b136_at t s n) a q

include hr hp in
theorem Row.gj3 (a : Fin 8) (q : Fin 9) :
    (b151 t s (ix3 n a q) : EReal) = (Math.GJ (sysA D ix t) (sysB hb ix t) 8 3 a q : EReal) :=
  gj_step 2 2 rfl (fun a q => (b136 t s (ix3 n a q) : EReal)) (fun a q => (b151 t s (ix3 n a q) : EReal))
    (padded_ne D ix (t + 1) _ 2 (by decide)) (hr.gj2 hp) (b151_at t s n) a q

include hr hp in
theorem Row.gj4 (a : Fin 8) (q : Fin 9) :
    (b166 t s (ix3 n a q) : EReal) = (Math.GJ (sysA D ix t) (sysB hb ix t) 8 4 a q : EReal) :=
  gj_step 3 3 rfl (fun a q => (b151 t s (ix3 n a q) : EReal)) (fun a q => (b166 t s (ix3 n a q) : EReal))
    (padded_ne D ix (t + 1) _ 3 (by decide)) (hr.gj3 hp) (b166_at t s n) a q

include hr hp in
theorem Row.gj5 (a : Fin 8) (q : Fin 9) :
    (b181 t s (ix3 n a q) : EReal) = (Math.GJ (sysA D ix t) (sysB hb ix t) 8 5 a q : EReal) :=
  gj_step 4 4 rfl (fun a q => (b166 t s (ix3 n a q) : EReal)) (fun a q => (b181 t s (ix3 n a q) : EReal))
    (padded_ne D ix (t + 1) _ 4 (by decide)) (hr.gj4 hp) (b181_at t s n) a q

include hr hp in
theorem Row.gj6 (a : Fin 8) (q : Fin 9) :
    (b196 t s (ix3 n a q) : EReal) = (Math.GJ (sysA D ix t) (sysB hb ix t) 8 6 a q : EReal) :=
  gj_step 5 5 rfl (fun a q => (b181 t s (ix3 n a q) : EReal)) (fun a q => (b196 t s (ix3 n a q) : EReal))
    (padded_ne D ix (t + 1) _ 5 (by decide)) (hr.gj5 hp) (b196_at t s n) a q

include hr hp in
theorem Row.gj7 (a : Fin 8) (q : Fin 9) :
    (b211 t s (ix3 n a q) : EReal) = (Math.GJ (sysA D ix t) (sysB hb ix t) 8 7 a q : EReal) :=
  gj_step 6 6 rfl (fun a q => (b196 t s (ix3 n a q) : EReal)) (fun a q => (b211 t s (ix3 n a q) : EReal))
    (padded_ne D ix (t + 1) _ 6 (by decide)) (hr.gj6 hp) (b211_at t s n) a q

include hr hp in
theorem Row.gj8 (a : Fin 8) (q : Fin 9) :
    (b226 t s (ix3 n a q) : EReal) = (Math.GJ (sysA D ix t) (sysB hb ix t) 8 8 a q : EReal) :=
  gj_step 7 7 rfl (fun a q => (b211 t s (ix3 n a q) : EReal)) (fun a q => (b226 t s (ix3 n a q) : EReal))
    (padded_ne D ix (t + 1) _ 7 (by decide)) (hr.gj7 hp) (b226_at t s n) a q

include hr hp in
theorem Row.solved (a : Fin 8) : (b228 t s (ix2 n a) : EReal) = (pad0 (t + 1) (c (t + 1)) a : EReal) := by
  rw [b228_at, hr.gj8 hp a 8]
  congr 1
  exact padded_solves D ix (t + 1) t.isLt (hp.solves (t + 1) t.isLt) a a.isLt

include hr hp in
theorem Row.taken (a : Fin 8) (k : Fin 1024) : (b237 t s (ix3 n a k) : EReal) = (gram D (slot ix t a) k : EReal) := by
  refine Eq.trans ?_ (hr.G (slot ix t a) k)
  refine gather_rows (s.main_v56_1) (b236 t s) n a k _ ?_
  rw [b236_at, hr.slots hp, wrap_lane]

/-- A sum over the eight slots of padded weights is the sum over the chosen. -/
theorem sum_slots (m : ℕ) (hm : m ≤ 8) (v : ℕ → ℝ) (f : ℕ → ℝ) (f' : Fin 8 → ℝ) (hf : ∀ a : Fin 8, a.val < m → f' a = f a) :
    ∑ a : Fin 8, ((pad0 m v a : ℝ) : EReal) * ((f' a : ℝ) : EReal) = ((∑ a ∈ Finset.range m, v a * f a : ℝ) : EReal) := by
  rw [sum_coe_mul]
  congr 1
  have h1 : ∑ a : Fin 8, pad0 m v a * f' a = ∑ a : Fin 8, f a * pad0 m v a := Finset.sum_congr rfl fun a _ => by
    unfold pad0
    by_cases h : a.val < m
    · rw [if_pos h, hf a h, mul_comm]
    · rw [if_neg h, zero_mul, mul_zero]
  rw [h1, Fin.sum_univ_eq_sum_range (fun a => f a * pad0 m v a) 8, sum_pad hm]
  exact Finset.sum_congr rfl fun a _ => mul_comm _ _

include hr hp in
theorem Row.res' (k : Fin 1024) : (b239 t s (ix2 n k) : EReal) = (res (gram D) hb ix c (t + 1) k : EReal) := by
  rw [b239_at, hr.hbar]
  have : ∑ a : Fin 8, (b228 t s (ix2 n a) : EReal) * b237 t s (ix3 n a k)
      = ((∑ a ∈ Finset.range (t + 1), c (t + 1) a * gram D (ix a) k : ℝ) : EReal) := by
    rw [← sum_slots (t + 1) t.isLt (c (t + 1)) (fun a => gram D (ix a) k) (fun a => gram D (slot ix t a) k)
      (fun a h => by rw [slot, if_pos h])]
    exact Finset.sum_congr rfl fun a _ => by rw [hr.solved hp, hr.taken hp]
  rw [this, ← EReal.coe_sub, res]

include hr hp in
/-- One trip makes one choice more. -/
theorem Row.next : Row (step t s) n D hb ix c (t + 1) where
  mask := hr.mask' hp
  h := hr.res' hp
  atoms a h := (hr.slots hp a).trans (by rw [slot, if_pos h])
  free a h := (hr.slots hp a).trans (by rw [slot, if_neg h])
  coeffs := hr.solved hp
  G := hr.G
  hbar := hr.hbar

end row

end Cert.Omp.Ref
-- ==== Proof.RefRun.lean ====
/- The reference's loop from its start to its end on one patch, and the patch it rebuilds. -/
module

public import proofs.«01_k».proof.Proof.RefRow
public import proofs.«01_k».proof.Proof.Read

@[expose] public section

set_option maxRecDepth 16384

noncomputable section

namespace Cert.Omp.Ref

open Idealize.ShloMosaic Cert.ReferenceIdeal Cert.ReferenceIdeal.Gen Cert.ReferenceIdeal.Step

/-- The rebuilt patches: each the chosen atoms weighted by their coefficients. -/
def rebuilt {F : FTy → Type} [FloatOps F] (s : State F) (d : FVec F S1024x1024 .f32) : FVec F S2048x1024 .f32 :=
  Host.dotGeneral dot_S2048x8_S2048x8x1024_S2048x1024_1_1_n_2_0_0 none (s.main_v56_8)
    (Host.gather gather_S1024x1024_S2048x8x1_S2048x8x1024_2_0_n_n_0_2_11024
      (transpose S1024x1024 [1, 0] d transposes_S1024x1024_S1024x1024_1_0)
      (broadcastInDim S2048x8x1 ![0, 1] bcast_S2048x8_S2048x8x1_0_1
        (select (cmpi .slt (s.main_v56_7) (broadcastInDim S2048x8 ![] bcast_S_S2048x8 (constantI S_ 32 0#32)))
          (addi (s.main_v56_7) (broadcastInDim S2048x8 ![] bcast_S_S2048x8 (constantI S_ 32 1024#32))) (s.main_v56_7))))

section

variable (z : FVec Ideal S8x16x64x64 .f32) (d : FVec Ideal S1024x1024 .f32)

theorem start_h (n : Fin 2048) (k : Fin 1024) :
    (A_main_v51 (F := Ideal) z d (ix2 n k) : EReal) = ∑ p : Fin 1024, A_main_v39 (F := Ideal) z d (ix2 n p) * d (ix2 p k) := by
  pointwise [A_main_v51]

theorem start_G (i j : Fin 1024) : (A_main_v50 (F := Ideal) z d (ix2 i j) : EReal) = ∑ p : Fin 1024, d (ix2 p i) * d (ix2 p j)
    + Ideal.ofBits .f32 0x38D1B717#32 * (((IntOp.cmpi .eq (BitVec.ofNat 32 i) (BitVec.ofNat 32 j)).toNat : ℝ) : EReal) := by
  pointwise [A_main_v50, A_main_v41, A_main_v40, K_main_v49, K_main_v48, K_main_v47, K_main_v46, K_main_v45, K_main_v44, K_main_v43, K_main_v42, K_main_cst, K_main_c_6]
  rw [show ∀ x : BitVec 32, IntOp.addi x 0#32 = x from fun x => BitVec.add_zero x]
  rfl

theorem start_mask (n : Fin 2048) (k : Fin 1024) : (K_main_v53 (F := Ideal) (ix2 n k) : BitVec 1) = 0#1 := by
  pointwise [K_main_v53, K_main_c_7]

theorem start_I (n : Fin 2048) (a : Fin 8) : (K_main_v54 (F := Ideal) (ix2 n a) : BitVec 32) = 0#32 := by
  pointwise [K_main_v54, K_main_c_8]

theorem start_coeffs (n : Fin 2048) (a : Fin 8) : (K_main_v55 (F := Ideal) (ix2 n a) : EReal) = 0 := by
  pointwise [K_main_v55, K_main_cst_9]

variable (s : State Ideal) (n : Fin 2048)

theorem rebuilt_at (k : Fin 1024) : (rebuilt s d (ix2 n k) : EReal)
    = ∑ a : Fin 8, s.main_v56_8 (ix2 n a) *
      Host.gather gather_S1024x1024_S2048x8x1_S2048x8x1024_2_0_n_n_0_2_11024
      (transpose S1024x1024 [1, 0] d transposes_S1024x1024_S1024x1024_1_0)
      (broadcastInDim S2048x8x1 ![0, 1] bcast_S2048x8_S2048x8x1_0_1
        (select (cmpi .slt (s.main_v56_7) (broadcastInDim S2048x8 ![] bcast_S_S2048x8 (constantI S_ 32 0#32)))
          (addi (s.main_v56_7) (broadcastInDim S2048x8 ![] bcast_S_S2048x8 (constantI S_ 32 1024#32))) (s.main_v56_7)))
        (ix3 n a k) := by
  unfold rebuilt
  generalize Host.gather gather_S1024x1024_S2048x8x1_S2048x8x1024_2_0_n_n_0_2_11024 _ _ = y
  pointwise []

theorem placed_at (I : IVec S2048x8 32) (a : Fin 8) :
    broadcastInDim S2048x8x1 ![0, 1] bcast_S2048x8_S2048x8x1_0_1
        (select (cmpi .slt I (broadcastInDim S2048x8 ![] bcast_S_S2048x8 (constantI S_ 32 0#32)))
          (addi I (broadcastInDim S2048x8 ![] bcast_S_S2048x8 (constantI S_ 32 1024#32))) I) (ix3 n a 0)
      = wrap (I (ix2 n a)) := by
  pointwise []
  rfl

theorem turned_at (i j : Fin 1024) :
    transpose S1024x1024 [1, 0] d transposes_S1024x1024_S1024x1024_1_0 (ix2 i j) = d (ix2 j i) := by
  pointwise []

end

section row

variable {z : FVec Ideal S8x16x64x64 .f32} {d : FVec Ideal S1024x1024 .f32} {n : Fin 2048}
  {x : Fin 1024 → ℝ} {D : Fin 1024 → Fin 1024 → ℝ} (hx : ∀ k, (A_main_v39 (F := Ideal) z d (ix2 n k) : EReal) = (x k : EReal))
  (hD : ∀ i j, (d (ix2 i j) : EReal) = (D i j : EReal))
  {ix : ℕ → Fin 1024} {c : ℕ → ℕ → ℝ} (hp : Path (gram D) (corr x D) ix c)

include hx hD in
theorem start_corr (k : Fin 1024) : (A_main_v51 (F := Ideal) z d (ix2 n k) : EReal) = (corr x D k : EReal) := by
  rw [start_h]
  simp only [hx, hD]
  rw [sum_coe_mul]; rfl

include hD in
theorem start_gram (i j : Fin 1024) : (A_main_v50 (F := Ideal) z d (ix2 i j) : EReal) = (gram D i j : EReal) := by
  rw [start_G, lit_e1]
  simp only [hD]
  rw [sum_coe_mul, gram, EReal.coe_add]
  congr 1
  by_cases h : i = j
  · subst h
    simp [IntOp.cmpi]
  · have h' : BitVec.ofNat 32 i.val ≠ BitVec.ofNat 32 j.val := fun e => h (lane_inj.1 e)
    simp [IntOp.cmpi, h, beq_false_of_ne h']

include hx hD in
/-- Before the first trip nothing is chosen. -/
theorem row_start (ix : ℕ → Fin 1024) (c : ℕ → ℕ → ℝ) : Row (init (F := Ideal) z d) n D (corr x D) ix c 0 where
  mask k := by
    have h : (init (F := Ideal) z d).main_v56_5 (ix2 n k) = 0#1 := start_mask n k
    rw [h]
    exact ⟨fun e => absurd e (by decide), fun ⟨a, ha, _⟩ => absurd ha (Nat.not_lt_zero a)⟩
  h k := by
    refine (start_corr hx hD k).trans ?_
    simp [res]
  atoms a h := absurd h (Nat.not_lt_zero _)
  free a _ := start_I n a
  coeffs a := (start_coeffs n a).trans (by simp [pad0])
  G := start_gram hD
  hbar := start_corr hx hD

include hx hD hp in
theorem row_at (it : ℕ → State Ideal) (h0 : it 0 = init z d) (hs : ∀ n, it (n + 1) = step n (it n)) (t : ℕ) (ht : t ≤ 8) :
    Row (it t) n D (corr x D) ix c t := by
  induction t with
  | zero => rw [h0]; exact row_start hx hD ix c
  | succ t ih =>
    rw [hs]
    exact Row.next (t := ⟨t, ht⟩) (ih (by omega)) hp

include hD in
/-- The patch rebuilt from what the loop holds at its end. -/
theorem rebuilt_row {s : State Ideal} {hb : Fin 1024 → ℝ} (hr : Row s n D hb ix c 8) (k : Fin 1024) :
    (rebuilt s d (ix2 n k) : EReal) = ((∑ a ∈ Finset.range 8, c 8 a * D k (ix a) : ℝ) : EReal) := by
  rw [rebuilt_at, ← sum_slots 8 le_rfl (c 8) (fun a => D k (ix a)) (fun a => D k (ix a)) (fun _ _ => rfl)]
  refine Finset.sum_congr rfl fun a _ => congrArg₂ _ (hr.coeffs a) ?_
  refine (gather_rows _ _ n a k (ix a) ?_).trans ((turned_at d _ _).trans (hD _ _))
  rw [placed_at, hr.atoms a a.isLt, wrap_lane]

end row

end Cert.Omp.Ref
-- ==== Proof.Finite.lean ====
/- What the precondition says: every entry of the two arguments is a real number; then so is every entry of the rows of
   patches, which are entries of the image or the padding's zero. -/
module

public import proofs.«01_k».proof.Pre_finite
public import proofs.«01_k».proof.Proof.Gen.ReferenceIdeal.Step
public import proofs.«01_k».proof.Proof.Spec
public import Idealize.ShloMosaic.Lib.ReduceAll

@[expose] public section

set_option maxRecDepth 16384

noncomputable section

namespace Cert.Omp.Finite

open Idealize.ShloMosaic Cert.Pre_finite

/-- The predicate's shape relations, each decided. -/
instance facts : Cert.Pre_finite.Facts where
  bcast_S_S8x16x64x64 := by decide
  reducesTo_S8x16x64x64_S_d0_1_2_3 := by decide
  h_S_ := by decide
  bcast_S_S1024x1024 := by decide
  reducesTo_S1024x1024_S_d0_1 := by decide

/-- Every entry is a real number. -/
def Reals {s : Shape} (v : FVec Ideal s .f32) : Prop := ∀ i, ∃ r : ℝ, (v i : EReal) = (r : EReal)

theorem posInf : Ideal.ofBits .f32 0x7F800000#32 = ⊤ := by
  simp [Ideal.ofBits, Ideal.ieee]

/-- A value whose absolute value is under infinity is real. -/
theorem real_of_lt {x : EReal} (h : Ideal.cmp .olt (max x (-x)) (Ideal.ofBits .f32 0x7F800000#32) = 1#1) : ∃ r : ℝ, x = (r : EReal) := by
  have h' : max x (-x) < ⊤ := by
    rw [posInf] at h
    by_contra hn
    rw [Ideal.cmp] at h
    simp [hn] at h
  obtain ⟨h1, h2⟩ := max_lt_iff.1 h'
  refine ⟨x.toReal, (EReal.coe_toReal h1.ne ?_).symm⟩
  rintro rfl
  simp at h2

theorem reals {z : FVec Ideal S8x16x64x64 .f32} {d : FVec Ideal S1024x1024 .f32}
    (h : Cert.Pre_finite.fn (F := Ideal) z d = fun _ => 1#1) : Reals z ∧ Reals d := by
  have h0 := congrFun h (Shape.Idx.first facts.h_S_)
  obtain ⟨h1, h2⟩ := IntOp.andi_eq_one.1 h0
  haveI : Subsingleton S_.Idx := ⟨fun a b => funext fun i => i.elim0⟩
  exact ⟨fun i => real_of_lt (Host.reduce_andi_all _ _ _ _ _ h1 i), fun i => real_of_lt (Host.reduce_andi_all _ _ _ _ _ h2 i)⟩

/-! Operations that only move entries. -/

theorem Reals.shapeCast {s t : Shape} {v : FVec Ideal s .f32} (hv : Reals v) (h : s.ShapeCasts t) :
    Reals (Idealize.ShloMosaic.shapeCast t v h) := fun _ => hv _
theorem Reals.transpose {s t : Shape} {v : FVec Ideal s .f32} (hv : Reals v) (p : List (Fin s.rank)) (h : s.Transposes p t) :
    Reals (Idealize.ShloMosaic.transpose t p v h) := fun _ => hv _
theorem Reals.gather {s si t : Shape} {w : ℕ} {v : FVec Ideal s .f32} (hv : Reals v) (g : GatherDims s si t) (idx : IVec si w) :
    Reals (Host.gather g v idx) := fun _ => hv _
theorem Reals.pad {s t u : Shape} {v : FVec Ideal s .f32} (hv : Reals v) {p : FVec Ideal u .f32} (hp : Reals p)
    (lo hi interior : Fin s.rank → ℕ) (h : s.Pads lo hi interior t) (hu : 0 < u.numel) :
    Reals (Idealize.ShloMosaic.pad t lo hi interior v p h hu) := fun j => by
  unfold Idealize.ShloMosaic.pad
  split_ifs
  · exact hv _
  · exact hp _

open Cert.ReferenceIdeal.Step in
theorem patches {z : FVec Ideal S8x16x64x64 .f32} (d : FVec Ideal S1024x1024 .f32) (hz : Reals z) :
    Reals (A_main_v39 (F := Ideal) z d) := by
  have hp : Reals (K_main_call0_v0 (F := Ideal)) := fun _ => ⟨((0#32 : BitVec 32).toInt : ℝ), rfl⟩
  exact ((((hz.pad hp _ _ _ _ _).gather _ _).transpose _ _).shapeCast _).shapeCast _

end Cert.Omp.Finite
-- ==== Proof.Agree.lean ====
/- At real arguments the kernel's reconstructed rows are the reference's, hence so are the two results. -/
module

public import proofs.«01_k».proof.Proof.KernelHost
public import proofs.«01_k».proof.Proof.Blocks
public import proofs.«01_k».proof.Proof.Gram
public import proofs.«01_k».proof.Proof.Choice
public import proofs.«01_k».proof.Proof.RefRun
public import proofs.«01_k».proof.Proof.Finite

@[expose] public section

set_option maxRecDepth 16384

noncomputable section

namespace Cert.Omp.Agree

open Idealize.ShloMosaic Idealize.ShloMosaic.TcCoe Idealize.SL Idealize.SL.Sem Cert.KernelIdeal Cert.KernelIdeal.Gen
open Cert.ReferenceIdeal.Step (State init step A_main_v39 R_main_v69)

section kernel

variable {F : FTy → Type} [FloatOps F]
variable (m : (ℓ : Loc nD τ sig) → Buf (Elt F) ℓ) (ρ : Dev nD → PrngReg) (c : Dev nD)

/-- The image and the dictionary that the run starts from. -/
abbrev argZ : FVec F S8x16x64x64 .f32 := m ((c : Thread nD τ).loc main_arg0)
abbrev argD : FVec F S1024x1024 .f32 := m ((c : Thread nD τ).loc main_arg1)

theorem entry0_d : V3 m ρ c main_arg1 = argD m c := W3_args m ρ c main_arg1 (by decide)
theorem entry1_d : V4 m ρ c main_arg1 = argD m c := W4_args m ρ c main_arg1 (by decide)
theorem entry1_x : V4 m ρ c main_v39 = A_main_v39 (argZ m c) (argD m c) :=
  (W4_of m ρ c main_v39 (by decide)).trans (KernelHost.rows m ρ c)
theorem entry1_g : V4 m ρ c main_v40_0 = out0_1 (argD m c) :=
  (W4_arr m ρ c 1).trans ((Blocks.gram_1 (V3 m ρ) c).trans (congrArg out0_1 (entry0_d m ρ c)))
theorem entry1_gh : V4 m ρ c main_v40_1 = out0_2 (argD m c) :=
  (W4_arr m ρ c 2).trans ((Blocks.gram_2 (V3 m ρ) c).trans (congrArg out0_2 (entry0_d m ρ c)))
theorem entry1_gm : V4 m ρ c main_v40_2 = out0_3 (argD m c) :=
  (W4_arr m ρ c 3).trans ((Blocks.gram_3 (V3 m ρ) c).trans (congrArg out0_3 (entry0_d m ρ c)))
theorem entry1_gl : V4 m ρ c main_v40_3 = out0_4 (argD m c) :=
  (W4_arr m ρ c 4).trans ((Blocks.gram_4 (V3 m ρ) c).trans (congrArg out0_4 (entry0_d m ρ c)))

theorem result : W6 m ρ c (Proc.devRef .tc main_v45) = KernelHost.tail (Blocks.recon (V4 m ρ) c) :=
  (KernelHost.result_tail m ρ c).trans (congrArg KernelHost.tail ((W5_arr m ρ c 6).trans (Blocks.omp_6 (V4 m ρ) c)))

theorem body_congr (i : grid1.Coords) (arg1 : Memref sig .tc .vmem S256x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S256x1024 .f32) (harg7 : arg7.IsWhole)
    (arg8 : Memref sig .tc .vmem S8x128 .f32) (harg8 : arg8.IsWhole)
    (I : Inp F) (x : Vec F S256x1024 .f32) (d g : Vec F S1024x1024 .f32) (gh gm gl : Vec F S1024x1024 .bf16)
    (hx : x = I.x) (hd : d = I.d) (hg : g = I.g) (hgh : gh = I.gh) (hgm : gm = I.gm) (hgl : gl = I.gl) :
    out1_A_6 c i arg1 harg1 arg2 harg2 arg3 harg3 arg4 harg4 arg5 harg5 arg6 harg6 arg7 harg7 arg8 harg8 x d g gh gm gl
      = out I (chosen I) := by
  subst hx hd hg hgh hgm hgl
  exact out_eq I (chosen I) (fun u _ => chosen_spec _ u) c i arg1 harg1 arg2 harg2 arg3 harg3 arg4 harg4 arg5 harg5 arg6 harg6
    arg7 harg7 arg8 harg8

variable (V : (c : Dev nD) → (b : Ref sig .tc) → Buf (Elt F) ((c : Thread nD τ).loc b))

/-- What point `t` of the second launch reads, of the contents it starts from. -/
def staged (t : Fin cfg1.N) : Inp F where
  x := iblk1 V c 0 t
  d := V c main_arg1
  g := V c main_v40_0
  gh := V c main_v40_1
  gm := V c main_v40_2
  gl := V c main_v40_3

theorem point (t : Fin cfg1.N) : outsAt1 V c t = out (staged c V t) (chosen (staged c V t)) := by
  unfold outsAt1
  exact body_congr c _ _ _ _ _ _ _ _ _ _ _ _ _ _ _ _ _ (staged c V t) _ _ _ _ _ _ rfl
    (Blocks.in1_1 V c t) (Blocks.in1_2 V c t) (Blocks.in1_3 V c t) (Blocks.in1_4 V c t) (Blocks.in1_5 V c t)

theorem recon_row (n : Fin 2048) (p : Fin 1024) :
    Blocks.recon V c (ix2 n p) = outsAt1 V c (Blocks.pt n) (ix2 (Blocks.inBand n) p) := by
  unfold Blocks.recon
  rfl

end kernel

variable (m : (ℓ : Loc nD τ sig) → Buf (Elt Ideal) ℓ) (ρ : Dev nD → PrngReg) (c : Dev nD)

/-- What a band's row of the second launch reads, once the arguments are real. -/
theorem reads (V : (c : Dev nD) → (b : Ref sig .tc) → Buf (Elt Ideal) ((c : Thread nD τ).loc b))
    (X : FVec Ideal S2048x1024 .f32) (d : FVec Ideal S1024x1024 .f32)
    (eX : V c main_v39 = X) (ed : V c main_arg1 = d) (eg : V c main_v40_0 = out0_1 d) (eh : V c main_v40_1 = out0_2 d)
    (em : V c main_v40_2 = out0_3 d) (el : V c main_v40_3 = out0_4 d)
    (n : Fin 2048) {x : Fin 1024 → ℝ} {D : Fin 1024 → Fin 1024 → ℝ}
    (hx : ∀ k, (X (ix2 n k) : EReal) = (x k : EReal)) (hD : ∀ i j, (d (ix2 i j) : EReal) = (D i j : EReal)) :
    ∃ ix : ℕ → Fin 1024, Reads (staged c V (Blocks.pt n)) (chosen (staged c V (Blocks.pt n))) (Blocks.inBand n) x D ix := by
  choose ix hix using fun a => chosen_lane (staged c V (Blocks.pt n)) a (Blocks.inBand n)
  refine ⟨ix, fun k => ?_, fun i j => ?_, fun i j => ?_, fun i j => ?_, fun i j => ?_, fun i j => ?_, hix⟩
  · exact ((Blocks.in1_0 V c (Blocks.pt n) (Blocks.inBand n) k n (Blocks.pt_inBand n)).trans (congrFun eX _)).trans (hx k)
  · exact (congrFun ed _).trans (hD i j)
  · exact (congrFun eg _).trans (gram_full d D hD i j)
  · exact (congrFun eh _).trans (gram_hi d D hD i j)
  · exact (congrFun em _).trans (gram_mid d D hD i j)
  · exact (congrFun el _).trans (gram_lo d D hD i j)

/-- Row by row: the row's choices in the kernel are a run of the pursuit, which the reference follows too. -/
theorem rows_agree (V : (c : Dev nD) → (b : Ref sig .tc) → Buf (Elt Ideal) ((c : Thread nD τ).loc b))
    (z : FVec Ideal S8x16x64x64 .f32) (d : FVec Ideal S1024x1024 .f32)
    (eX : V c main_v39 = A_main_v39 (F := Ideal) z d) (ed : V c main_arg1 = d) (eg : V c main_v40_0 = out0_1 d)
    (eh : V c main_v40_1 = out0_2 d) (em : V c main_v40_2 = out0_3 d) (el : V c main_v40_3 = out0_4 d)
    (hz : Finite.Reals z) (hd : Finite.Reals d) (it : ℕ → State Ideal)
    (h0 : it 0 = init (F := Ideal) z d) (hs : ∀ n, it (n + 1) = step n (it n)) (n : Fin 2048) (p : Fin 1024) :
    (Blocks.recon V c (ix2 n p) : EReal) = Ref.rebuilt (it 8) d (ix2 n p) := by
  obtain ⟨x, hx⟩ : ∃ x : Fin 1024 → ℝ, ∀ k, (A_main_v39 (F := Ideal) z d (ix2 n k) : EReal) = (x k : EReal) :=
    ⟨fun k => (Finite.patches d hz (ix2 n k)).choose, fun k => (Finite.patches d hz (ix2 n k)).choose_spec⟩
  obtain ⟨D, hD⟩ : ∃ D : Fin 1024 → Fin 1024 → ℝ, ∀ i j, (d (ix2 i j) : EReal) = (D i j : EReal) :=
    ⟨fun i j => (hd (ix2 i j)).choose, fun i j => (hd (ix2 i j)).choose_spec⟩
  obtain ⟨ix, hr⟩ := reads c V _ d eX ed eg eh em el n hx hD
  have hp := hr.path (fun t _ => chosen_spec _ t)
  refine (recon_row c V n p).trans ((congrFun (point c V (Blocks.pt n)) _).trans ((hr.out p).trans ?_))
  exact (Ref.rebuilt_row hD (Ref.row_at hx hD hp it h0 hs 8 le_rfl) p).symm

theorem recon_agree (hz : Finite.Reals (argZ m c)) (hd : Finite.Reals (argD m c)) (it : ℕ → State Ideal)
    (h0 : it 0 = init (argZ m c) (argD m c)) (hs : ∀ n, it (n + 1) = step n (it n)) :
    Blocks.recon (V4 m ρ) c = Ref.rebuilt (it 8) (argD m c) := by
  funext i
  have hi : i = (ix2 (i 0) (i 1) : S2048x1024.Idx) := by
    funext a; fin_cases a <;> rfl
  rw [hi]
  exact rows_agree c (V4 m ρ) (argZ m c) (argD m c) (entry1_x m ρ c) (entry1_d m ρ c) (entry1_g m ρ c) (entry1_gh m ρ c)
    (entry1_gm m ρ c) (entry1_gl m ρ c) hz hd it h0 hs (i 0) (i 1)

theorem tail_ref (s : State Ideal) (d : FVec Ideal S1024x1024 .f32) : KernelHost.tail (Ref.rebuilt s d) = R_main_v69 s d := rfl

/-- The two results are one array. -/
theorem results_agree (hz : Finite.Reals (argZ m c)) (hd : Finite.Reals (argD m c)) (it : ℕ → State Ideal)
    (h0 : it 0 = init (argZ m c) (argD m c)) (hs : ∀ n, it (n + 1) = step n (it n)) :
    W6 m ρ c (Proc.devRef .tc main_v45) = R_main_v69 (it 8) (argD m c) := by
  rw [result, recon_agree m ρ c hz hd it h0 hs, tail_ref]

end Cert.Omp.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.StepRun
public import proofs.«01_k».proof.Proof.KernelRun
public import proofs.«01_k».proof.Proof.Agree
public import Idealize.ShloMosaic.Adequacy
public import Idealize.ShloMosaic.Init

@[expose] public section

noncomputable section

namespace Cert.Proof

open Idealize.ShloMosaic Idealize.SL.Sem

/-- The loop's states, from the arguments. -/
def states (z : FVec Ideal Cert.ReferenceIdeal.S8x16x64x64 .f32) (d : FVec Ideal Cert.ReferenceIdeal.S1024x1024 .f32) :
    ℕ → Cert.ReferenceIdeal.Step.State Ideal
  | 0 => Cert.ReferenceIdeal.Step.init (F := Ideal) z d
  | n + 1 => Cert.ReferenceIdeal.Step.step n (states z d n)

/-- The reference runs, its arguments end as they were, and it has no counter that could be left raised. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From real arguments the two programs end with one result. -/
theorem algebraic : Cert.algebraic_KernelIdeal_ReferenceIdeal_pre_finite (hKernelIdeal := Cert.KernelIdeal.Gen.facts)
    (hReferenceIdeal := Cert.ReferenceIdeal.Gen.facts) (hPre_finite := Cert.Omp.Finite.facts) := by
  intro m ρ m' ρ' hpre hagree
  refine ⟨fun c => Cert.KernelIdeal.Gen.W6 m ρ c (Proc.devRef .tc Cert.KernelIdeal.main_v45),
    (θ_run _ _ _).mono (fun _ h => h.1) (Cert.Omp.KernelRun.run_result (F := Ideal) m ρ), ?_⟩
  have hrun := Cert.ReferenceIdeal.StepRun.run_iter (F := Ideal) m' ρ'
    (fun c => states (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)))
    (fun _ => rfl) (fun _ _ => rfl)
  refine (θ_run _ _ _).mono (fun _ h c => ⟨(h c).1.trans ?_, (h c).2⟩) hrun
  obtain ⟨hz, hd⟩ := Cert.Omp.Finite.reals (hpre c)
  rw [(hagree c).1, (hagree c).2]
  exact (Cert.Omp.Agree.results_agree m ρ c hz hd
    (states (Cert.Omp.Agree.argZ m c) (Cert.Omp.Agree.argD m c)) rfl fun _ => rfl).symm

theorem claim : Cert.Claim := ⟨Cert.Kernel.Gen.facts, Cert.KernelIdeal.Gen.facts, Cert.ReferenceIdeal.Gen.facts,
  Cert.Omp.Finite.facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial, algebraic⟩

end Cert.Proof

end
